-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_retained [hKernelIdeal : Cert.KernelIdeal.Facts] [hReferenceIdeal : Cert.ReferenceIdeal.Facts] [hOn_retained : Cert.On_retained.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![512, 65536]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_retained.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_retained.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_retained : Cert.On_retained.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_retained (hKernelIdeal := hKernelIdeal) (hReferenceIdeal := hReferenceIdeal) (hOn_retained := hOn_retained)
-- ==== On_retained.lean ====
abbrev S512x65536 : Shape := ⟨2, ![512, 65536]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩
abbrev S512x1x16x32x128 : Shape := ⟨5, ![512, 1, 16, 32, 128]⟩
abbrev S512x16x1x1x1 : Shape := ⟨5, ![512, 16, 1, 1, 1]⟩
abbrev S512x16x16x32x128 : Shape := ⟨5, ![512, 16, 16, 32, 128]⟩
abbrev S512x16x16x128 : Shape := ⟨4, ![512, 16, 16, 128]⟩
abbrev S512x16x16 : Shape := ⟨3, ![512, 16, 16]⟩
abbrev S16 : Shape := ⟨1, ![16]⟩
abbrev S16x1 : Shape := ⟨2, ![16, 1]⟩
abbrev S15 : Shape := ⟨1, ![15]⟩
abbrev S1x15 : Shape := ⟨2, ![1, 15]⟩
abbrev S16x15 : Shape := ⟨2, ![16, 15]⟩
abbrev S512x15 : Shape := ⟨2, ![512, 15]⟩
abbrev S512x1x15 : Shape := ⟨3, ![512, 1, 15]⟩
abbrev S1x16x15 : Shape := ⟨3, ![1, 16, 15]⟩
abbrev S512x16x15 : Shape := ⟨3, ![512, 16, 15]⟩

class Facts : Prop where
  slices_S512x65536_S512x16_0_0 : S512x65536.Slices ![0, 0] S512x16
  bcast_S_S512x16 : S_.BroadcastsInDim S512x16 (![] : Fin 0 → Fin S512x16.rank)
  shapeCasts_S512x16_S512x16x1 : S512x16.ShapeCasts S512x16x1
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  shapeCasts_S512x65536_S512x1x16x32x128 : S512x65536.ShapeCasts S512x1x16x32x128
  bcast_S512x16_S512x16x1x1x1_0_1 : S512x16.BroadcastsInDim S512x16x1x1x1 (![0, 1] : Fin 2 → Fin S512x16x1x1x1.rank)
  bcast_S512x1x16x32x128_S512x16x16x32x128_0_1_2_3_4 : S512x1x16x32x128.BroadcastsInDim S512x16x16x32x128 (![0, 1, 2, 3, 4] : Fin 5 → Fin S512x16x16x32x128.rank)
  bcast_S512x16x1x1x1_S512x16x16x32x128_0_1_2_3_4 : S512x16x1x1x1.BroadcastsInDim S512x16x16x32x128 (![0, 1, 2, 3, 4] : Fin 5 → Fin S512x16x16x32x128.rank)
  natLt_1_32 : 1 < 32
  reducesTo_S512x16x16x32x128_S512x16x16x128_d3 : S512x16x16x32x128.ReducesTo [3] S512x16x16x128
  bcast_S_S512x16x16x128 : S_.BroadcastsInDim S512x16x16x128 (![] : Fin 0 → Fin S512x16x16x128.rank)
  reducesTo_S512x16x16x128_S512x16_d2_3 : S512x16x16x128.ReducesTo [2, 3] S512x16
  reducesTo_S512x16x16x32x128_S512x16x16_d3_4 : S512x16x16x32x128.ReducesTo [3, 4] S512x16x16
  bcast_S_S512x16x16 : S_.BroadcastsInDim S512x16x16 (![] : Fin 0 → Fin S512x16x16.rank)
  reducesTo_S512x16x16_S512x16_d2 : S512x16x16.ReducesTo [2] S512x16
  bcast_S16_S16x1_0 : S16.BroadcastsInDim S16x1 (![0] : Fin 1 → Fin S16x1.rank)
  bcast_S15_S1x15_1 : S15.BroadcastsInDim S1x15 (![1] : Fin 1 → Fin S1x15.rank)
  bcast_S16x1_S16x15_0_1 : S16x1.BroadcastsInDim S16x15 (![0, 1] : Fin 2 → Fin S16x15.rank)
  bcast_S1x15_S16x15_0_1 : S1x15.BroadcastsInDim S16x15 (![0, 1] : Fin 2 → Fin S16x15.rank)
  slices_S512x16_S512x15_0_0 : S512x16.Slices ![0, 0] S512x15
  bcast_S512x15_S512x1x15_0_2 : S512x15.BroadcastsInDim S512x1x15 (![0, 2] : Fin 2 → Fin S512x1x15.rank)
  slices_S512x16_S512x15_0_1 : S512x16.Slices ![0, 1] S512x15
  bcast_S16x15_S1x16x15_1_2 : S16x15.BroadcastsInDim S1x16x15 (![1, 2] : Fin 2 → Fin S1x16x15.rank)
  bcast_S512x1x15_S512x16x15_0_1_2 : S512x1x15.BroadcastsInDim S512x16x15 (![0, 1, 2] : Fin 3 → Fin S512x16x15.rank)
  bcast_S1x16x15_S512x16x15_0_1_2 : S1x16x15.BroadcastsInDim S512x16x15 (![0, 1, 2] : Fin 3 → Fin S512x16x15.rank)
  reducesTo_S512x16x15_S512x16_d2 : S512x16x15.ReducesTo [2] S512x16
  gather_S512x65536_S512x16x1_S512x16_n_1_0_0_1_2_11_wf : GatherDims.WF S512x65536 S512x16x1 S512x16 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x65536_S512x16x1_S512x16_n_1_0_0_1_2_11 : GatherDims S512x65536 S512x16x1 S512x16 where
  offsetDims := []
  collapsedSliceDims := [1]
  operandBatchingDims := [0]
  startIndicesBatchingDims := [0]
  startIndexMap := [1]
  indexVectorDim := 2
  sliceSizes := ![1, 1]
  wf := gather_S512x65536_S512x16x1_S512x16_n_1_0_0_1_2_11_wf

def fn_argsort {F : FTy → Type} [FloatOps F] (arg0 : FVec F S512x65536 .f32) : IVec S512x65536 32 :=
  let v0 : IVec S512x65536 32 := iotaInDim S512x65536 32 1
  let v1_0 : FVec F S512x65536 .f32 := (fun x y => (Host.sort2 S512x65536 1 comparator_f32_i32_d1 x y).1) arg0 v0
  let v1_1 : IVec S512x65536 32 := (fun x y => (Host.sort2 S512x65536 1 comparator_f32_i32_d1 x y).2) arg0 v0
  v1_1

def fn_take_along_axis {F : FTy → Type} [FloatOps F] (arg0 : FVec F S512x65536 .f32) (arg1 : IVec S512x16 32) : FVec F S512x16 .f32 :=
  let c : IVec S_ 32 := constantI S_ 32 0#32
  let v0 : IVec S512x16 32 := broadcastInDim S512x16 ![] bcast_S_S512x16 c
  let v1 : IVec S512x16 1 := cmpi .slt arg1 v0
  let c_0 : IVec S_ 32 := constantI S_ 32 65536#32
  let v2 : IVec S512x16 32 := broadcastInDim S512x16 ![] bcast_S_S512x16 c_0
  let v3 : IVec S512x16 32 := addi arg1 v2
  let v4 : IVec S512x16 32 := select v1 v3 arg1
  let v5 : IVec S512x16x1 32 := shapeCast S512x16x1 v4 shapeCasts_S512x16_S512x16x1
  let c_1 : IVec S1 32 := constantI S1 32 65535#32
  let c_2 : IVec S_ 32 := constantI S_ 32 0#32
  let v6 : IVec S512x16x1 32 := broadcastInDim S512x16x1 ![] bcast_S_S512x16x1 c_2
  let v7 : IVec S512x16x1 1 := cmpi .sge v5 v6
  let v8 : IVec S1x1x1 32 := broadcastInDim S1x1x1 ![2] bcast_S1_S1x1x1_2 c_1
  let v9 : IVec S512x16x1 32 := broadcastInDim S512x16x1 ![0, 1, 2] bcast_S1x1x1_S512x16x1_0_1_2 v8
  let v10 : IVec S512x16x1 1 := cmpi .sle v5 v9
  let v11 : IVec S512x16x1 1 := andi v7 v10
  let c_3 : IVec S_ 1 := constantI S_ 1 1#1
  let v12 : IVec S512x16 1 := (fun x v => Host.reduce IntOp.andi x v reducesTo_S512x16x1_S512x16_d2 h_S_) v11 c_3
  let v13 : FVec F S512x16 .f32 := (fun x i => Host.gather gather_S512x65536_S512x16x1_S512x16_n_1_0_0_1_2_11 x i) arg0 v5
  let cst : FVec F S_ .f32 := constant S_ .f32 0x7FC00000#32
  let v14 : FVec F S512x16 .f32 := broadcastInDim S512x16 ![] bcast_S_S512x16 cst
  let v15 : FVec F S512x16 .f32 := select v12 v13 v14
  v15

def fn_part1 {F : FTy → Type} [FloatOps F] (main_v3 : FVec F S512x16 .f32) (main_v13 : IVec S512x16 1) (main_v17 : IVec S512x16 1) : IVec S512x16 1 :=
  let main_v18 : IVec S16 32 := iotaInDim S16 32 0
  let main_v19 : IVec S16x1 32 := broadcastInDim S16x1 ![0] bcast_S16_S16x1_0 main_v18
  let main_v20 : IVec S15 32 := iotaInDim S15 32 0
  let main_v21 : IVec S1x15 32 := broadcastInDim S1x15 ![1] bcast_S15_S1x15_1 main_v20
  let main_v22 : IVec S16x15 32 := broadcastInDim S16x15 ![0, 1] bcast_S16x1_S16x15_0_1 main_v19
  let main_v23 : IVec S16x15 32 := broadcastInDim S16x15 ![0, 1] bcast_S1x15_S16x15_0_1 main_v21
  let main_v24 : IVec S16x15 1 := cmpi .sgt main_v22 main_v23
  let main_v25 : FVec F S512x15 .f32 := (extractStridedSlice S512x15 ![0, 0] · slices_S512x16_S512x15_0_0) main_v3
  let main_v26 : FVec F S512x1x15 .f32 := broadcastInDim S512x1x15 ![0, 2] bcast_S512x15_S512x1x15_0_2 main_v25
  let main_v27 : FVec F S512x15 .f32 := (extractStridedSlice S512x15 ![0, 1] · slices_S512x16_S512x15_0_1) main_v3
  let main_v28 : FVec F S512x1x15 .f32 := broadcastInDim S512x1x15 ![0, 2] bcast_S512x15_S512x1x15_0_2 main_v27
  let main_v29 : IVec S512x1x15 1 := cmpf .ogt main_v26 main_v28
  let main_v30 : IVec S1x16x15 1 := broadcastInDim S1x16x15 ![1, 2] bcast_S16x15_S1x16x15_1_2 main_v24
  let main_v31 : IVec S1x16x15 1 := noti main_v30
  let main_v32 : IVec S512x16x15 1 := broadcastInDim S512x16x15 ![0, 1, 2] bcast_S512x1x15_S512x16x15_0_1_2 main_v29
  let main_v33 : IVec S512x16x15 1 := broadcastInDim S512x16x15 ![0, 1, 2] bcast_S1x16x15_S512x16x15_0_1_2 main_v31
  let main_v34 : IVec S512x16x15 1 := ori main_v32 main_v33
  let main_c_5 : IVec S_ 1 := constantI S_ 1 1#1
  let main_v35 : IVec S512x16 1 := (fun x v => Host.reduce IntOp.andi x v reducesTo_S512x16x15_S512x16_d2 h_S_) main_v34 main_c_5
  let main_v36 : IVec S512x16 1 := andi main_v13 main_v17
  let main_v37 : IVec S512x16 1 := andi main_v36 main_v35
  main_v37

def fn {F : FTy → Type} [FloatOps F] (main_arg0 : FVec F S512x65536 .f32) : IVec S512x16 1 :=
  let main_v0 : FVec F S512x65536 .f32 := Host.negf main_arg0
  let main_v1 : IVec S512x65536 32 := fn_argsort (F := F) main_v0
  let main_v2 : IVec S512x16 32 := (extractStridedSlice S512x16 ![0, 0] · slices_S512x65536_S512x16_0_0) main_v1
  let main_v3 : FVec F S512x16 .f32 := fn_take_along_axis (F := F) main_arg0 main_v2
  let main_v4 : FVec F S512x1x16x32x128 .f32 := shapeCast S512x1x16x32x128 main_arg0 shapeCasts_S512x65536_S512x1x16x32x128
  let main_v5 : FVec F S512x16x1x1x1 .f32 := broadcastInDim S512x16x1x1x1 ![0, 1] bcast_S512x16_S512x16x1x1x1_0_1 main_v3
  let main_v6 : FVec F S512x16x16x32x128 .f32 := broadcastInDim S512x16x16x32x128 ![0, 1, 2, 3, 4] bcast_S512x1x16x32x128_S512x16x16x32x128_0_1_2_3_4 main_v4
  let main_v7 : FVec F S512x16x16x32x128 .f32 := broadcastInDim S512x16x16x32x128 ![0, 1, 2, 3, 4] bcast_S512x16x1x1x1_S512x16x16x32x128_0_1_2_3_4 main_v5
  let main_v8 : IVec S512x16x16x32x128 1 := cmpf .oge main_v6 main_v7
  let main_v9 : IVec S512x16x16x32x128 32 := (extui 32 · natLt_1_32) main_v8
  let main_c : IVec S_ 32 := constantI S_ 32 0#32
  let main_v10 : IVec S512x16x16x128 32 := (fun x v => Host.reduce IntOp.addi x v reducesTo_S512x16x16x32x128_S512x16x16x128_d3 h_S_) main_v9 main_c
  let main_c_0 : IVec S_ 32 := constantI S_ 32 2#32
  let main_v11 : IVec S512x16x16x128 32 := broadcastInDim S512x16x16x128 ![] bcast_S_S512x16x16x128 main_c_0
  let main_v12 : IVec S512x16x16x128 1 := cmpi .sle main_v10 main_v11
  let main_c_1 : IVec S_ 1 := constantI S_ 1 1#1
  let main_v13 : IVec S512x16 1 := (fun x v => Host.reduce IntOp.andi x v reducesTo_S512x16x16x128_S512x16_d2_3 h_S_) main_v12 main_c_1
  let main_c_2 : IVec S_ 32 := constantI S_ 32 0#32
  let main_v14 : IVec S512x16x16 32 := (fun x v => Host.reduce IntOp.addi x v reducesTo_S512x16x16x32x128_S512x16x16_d3_4 h_S_) main_v9 main_c_2
  let main_c_3 : IVec S_ 32 := constantI S_ 32 8#32
  let main_v15 : IVec S512x16x16 32 := broadcastInDim S512x16x16 ![] bcast_S_S512x16x16 main_c_3
  let main_v16 : IVec S512x16x16 1 := cmpi .sle main_v14 main_v15
  let main_c_4 : IVec S_ 1 := constantI S_ 1 1#1
  let main_v17 : IVec S512x16 1 := (fun x v => Host.reduce IntOp.andi x v reducesTo_S512x16x16_S512x16_d2 h_S_) main_v16 main_c_4
  fn_part1 (F := F) main_v3 main_v13 main_v17
-- ==== Kernel.lean ====
abbrev S512x4096 : Shape := ⟨2, ![512, 4096]⟩
abbrev S512x16 : Shape := ⟨2, ![512, 16]⟩
abbrev S8x512 : Shape := ⟨2, ![8, 512]⟩
abbrev S16x8x512 : Shape := ⟨3, ![16, 8, 512]⟩
abbrev S16 : Shape := ⟨1, ![16]⟩
abbrev S_ : Shape := ⟨0, ![]⟩
abbrev S512x32x128 : Shape := ⟨3, ![512, 32, 128]⟩
abbrev S512x128 : Shape := ⟨2, ![512, 128]⟩
abbrev S512x1x128 : Shape := ⟨3, ![512, 1, 128]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S1x8x512 : Shape := ⟨3, ![1, 8, 512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S8x512, .f32⟩
  | .local _ .vmem, ⟨3, _⟩ => ⟨S16x8x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_159 : BitVec 32 := 1#32
  let v268 : BitVec 32 := Scalar.addi v2 c1_i32_159
  let c16_i32_160 : BitVec 32 := 16#32
  let c0_i32_161 : BitVec 32 := 0#32
  let v269 : BitVec 1 := Scalar.cmpi .eq c16_i32_160 c0_i32_161
  let c1_i32_162 : BitVec 32 := 1#32
  let v270 : BitVec 32 := Scalar.select v269 c1_i32_162 c16_i32_160
  let v271 : BitVec 32 := Scalar.remsi v268 v270
  let c0_i32_164 : BitVec 32 := 0#32
  let v273 : BitVec 1 := Scalar.cmpi .slt v271 c0_i32_164
  let c0_i32_165 : BitVec 32 := 0#32
  let v274 : BitVec 1 := Scalar.cmpi .slt v270 c0_i32_165
  let v275 : BitVec 1 := Scalar.xori v273 v274
  let c0_i32_163 : BitVec 32 := 0#32
  let v272 : BitVec 1 := Scalar.cmpi .ne v271 c0_i32_163
  let v276 : BitVec 1 := Scalar.andi v275 v272
  let v277 : BitVec 32 := Scalar.addi v271 v270
  let v278 : BitVec 32 := Scalar.select v276 v277 v271
  let c1_i32_169 : BitVec 32 := 1#32
  let v279 : BitVec 32 := Scalar.muli v278 c1_i32_169
  let v280 : BitVec 32 := Scalar.addi c0_i32_170 v279
  v280.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_173 : BitVec 32 := 2#32
  let v287 : BitVec 32 := Scalar.addi v2 c2_i32_173
  let c16_i32_174 : BitVec 32 := 16#32
  let c0_i32_175 : BitVec 32 := 0#32
  let v288 : BitVec 1 := Scalar.cmpi .eq c16_i32_174 c0_i32_175
  let c1_i32_176 : BitVec 32 := 1#32
  let v289 : BitVec 32 := Scalar.select v288 c1_i32_176 c16_i32_174
  let v290 : BitVec 32 := Scalar.remsi v287 v289
  let c0_i32_178 : BitVec 32 := 0#32
  let v292 : BitVec 1 := Scalar.cmpi .slt v290 c0_i32_178
  let c0_i32_179 : BitVec 32 := 0#32
  let v293 : BitVec 1 := Scalar.cmpi .slt v289 c0_i32_179
  let v294 : BitVec 1 := Scalar.xori v292 v293
  let c0_i32_177 : BitVec 32 := 0#32
  let v291 : BitVec 1 := Scalar.cmpi .ne v290 c0_i32_177
  let v295 : BitVec 1 := Scalar.andi v294 v291
  let v296 : BitVec 32 := Scalar.addi v290 v289
  let v297 : BitVec 32 := Scalar.select v295 v296 v290
  let c1_i32_183 : BitVec 32 := 1#32
  let v298 : BitVec 32 := Scalar.muli v297 c1_i32_183
  let v299 : BitVec 32 := Scalar.addi c0_i32_184 v298
  v299.toNat
def k0_dev18 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_187 : BitVec 32 := 3#32
  let v306 : BitVec 32 := Scalar.addi v2 c3_i32_187
  let c16_i32_188 : BitVec 32 := 16#32
  let c0_i32_189 : BitVec 32 := 0#32
  let v307 : BitVec 1 := Scalar.cmpi .eq c16_i32_188 c0_i32_189
  let c1_i32_190 : BitVec 32 := 1#32
  let v308 : BitVec 32 := Scalar.select v307 c1_i32_190 c16_i32_188
  let v309 : BitVec 32 := Scalar.remsi v306 v308
  let c0_i32_192 : BitVec 32 := 0#32
  let v311 : BitVec 1 := Scalar.cmpi .slt v309 c0_i32_192
  let c0_i32_193 : BitVec 32 := 0#32
  let v312 : BitVec 1 := Scalar.cmpi .slt v308 c0_i32_193
  let v313 : BitVec 1 := Scalar.xori v311 v312
  let c0_i32_191 : BitVec 32 := 0#32
  let v310 : BitVec 1 := Scalar.cmpi .ne v309 c0_i32_191
  let v314 : BitVec 1 := Scalar.andi v313 v310
  let v315 : BitVec 32 := Scalar.addi v309 v308
  let v316 : BitVec 32 := Scalar.select v314 v315 v309
  let c1_i32_197 : BitVec 32 := 1#32
  let v317 : BitVec 32 := Scalar.muli v316 c1_i32_197
  let v318 : BitVec 32 := Scalar.addi c0_i32_198 v317
  v318.toNat
def k0_dev19 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_201 : BitVec 32 := 4#32
  let v325 : BitVec 32 := Scalar.addi v2 c4_i32_201
  let c16_i32_202 : BitVec 32 := 16#32
  let c0_i32_203 : BitVec 32 := 0#32
  let v326 : BitVec 1 := Scalar.cmpi .eq c16_i32_202 c0_i32_203
  let c1_i32_204 : BitVec 32 := 1#32
  let v327 : BitVec 32 := Scalar.select v326 c1_i32_204 c16_i32_202
  let v328 : BitVec 32 := Scalar.remsi v325 v327
  let c0_i32_206 : BitVec 32 := 0#32
  let v330 : BitVec 1 := Scalar.cmpi .slt v328 c0_i32_206
  let c0_i32_207 : BitVec 32 := 0#32
  let v331 : BitVec 1 := Scalar.cmpi .slt v327 c0_i32_207
  let v332 : BitVec 1 := Scalar.xori v330 v331
  let c0_i32_205 : BitVec 32 := 0#32
  let v329 : BitVec 1 := Scalar.cmpi .ne v328 c0_i32_205
  let v333 : BitVec 1 := Scalar.andi v332 v329
  let v334 : BitVec 32 := Scalar.addi v328 v327
  let v335 : BitVec 32 := Scalar.select v333 v334 v328
  let c1_i32_211 : BitVec 32 := 1#32
  let v336 : BitVec 32 := Scalar.muli v335 c1_i32_211
  let v337 : BitVec 32 := Scalar.addi c0_i32_212 v336
  v337.toNat
def k0_dev20 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_215 : BitVec 32 := 5#32
  let v344 : BitVec 32 := Scalar.addi v2 c5_i32_215
  let c16_i32_216 : BitVec 32 := 16#32
  let c0_i32_217 : BitVec 32 := 0#32
  let v345 : BitVec 1 := Scalar.cmpi .eq c16_i32_216 c0_i32_217
  let c1_i32_218 : BitVec 32 := 1#32
  let v346 : BitVec 32 := Scalar.select v345 c1_i32_218 c16_i32_216
  let v347 : BitVec 32 := Scalar.remsi v344 v346
  let c0_i32_220 : BitVec 32 := 0#32
  let v349 : BitVec 1 := Scalar.cmpi .slt v347 c0_i32_220
  let c0_i32_221 : BitVec 32 := 0#32
  let v350 : BitVec 1 := Scalar.cmpi .slt v346 c0_i32_221
  let v351 : BitVec 1 := Scalar.xori v349 v350
  let c0_i32_219 : BitVec 32 := 0#32
  let v348 : BitVec 1 := Scalar.cmpi .ne v347 c0_i32_219
  let v352 : BitVec 1 := Scalar.andi v351 v348
  let v353 : BitVec 32 := Scalar.addi v347 v346
  let v354 : BitVec 32 := Scalar.select v352 v353 v347
  let c1_i32_225 : BitVec 32 := 1#32
  let v355 : BitVec 32 := Scalar.muli v354 c1_i32_225
  let v356 : BitVec 32 := Scalar.addi c0_i32_226 v355
  v356.toNat
def k0_dev21 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_229 : BitVec 32 := 6#32
  let v363 : BitVec 32 := Scalar.addi v2 c6_i32_229
  let c16_i32_230 : BitVec 32 := 16#32
  let c0_i32_231 : BitVec 32 := 0#32
  let v364 : BitVec 1 := Scalar.cmpi .eq c16_i32_230 c0_i32_231
  let c1_i32_232 : BitVec 32 := 1#32
  let v365 : BitVec 32 := Scalar.select v364 c1_i32_232 c16_i32_230
  let v366 : BitVec 32 := Scalar.remsi v363 v365
  let c0_i32_234 : BitVec 32 := 0#32
  let v368 : BitVec 1 := Scalar.cmpi .slt v366 c0_i32_234
  let c0_i32_235 : BitVec 32 := 0#32
  let v369 : BitVec 1 := Scalar.cmpi .slt v365 c0_i32_235
  let v370 : BitVec 1 := Scalar.xori v368 v369
  let c0_i32_233 : BitVec 32 := 0#32
  let v367 : BitVec 1 := Scalar.cmpi .ne v366 c0_i32_233
  let v371 : BitVec 1 := Scalar.andi v370 v367
  let v372 : BitVec 32 := Scalar.addi v366 v365
  let v373 : BitVec 32 := Scalar.select v371 v372 v366
  let c1_i32_239 : BitVec 32 := 1#32
  let v374 : BitVec 32 := Scalar.muli v373 c1_i32_239
  let v375 : BitVec 32 := Scalar.addi c0_i32_240 v374
  v375.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_243 : BitVec 32 := 7#32
  let v382 : BitVec 32 := Scalar.addi v2 c7_i32_243
  let c16_i32_244 : BitVec 32 := 16#32
  let c0_i32_245 : BitVec 32 := 0#32
  let v383 : BitVec 1 := Scalar.cmpi .eq c16_i32_244 c0_i32_245
  let c1_i32_246 : BitVec 32 := 1#32
  let v384 : BitVec 32 := Scalar.select v383 c1_i32_246 c16_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let c1_i32_253 : BitVec 32 := 1#32
  let v393 : BitVec 32 := Scalar.muli v392 c1_i32_253
  let v394 : BitVec 32 := Scalar.addi c0_i32_254 v393
  v394.toNat
def k0_dev23 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_257 : BitVec 32 := 8#32
  let v401 : BitVec 32 := Scalar.addi v2 c8_i32_257
  let c16_i32_258 : BitVec 32 := 16#32
  let c0_i32_259 : BitVec 32 := 0#32
  let v402 : BitVec 1 := Scalar.cmpi .eq c16_i32_258 c0_i32_259
  let c1_i32_260 : BitVec 32 := 1#32
  let v403 : BitVec 32 := Scalar.select v402 c1_i32_260 c16_i32_258
  let v404 : BitVec 32 := Scalar.remsi v401 v403
  let c0_i32_262 : BitVec 32 := 0#32
  let v406 : BitVec 1 := Scalar.cmpi .slt v404 c0_i32_262
  let c0_i32_263 : BitVec 32 := 0#32
  let v407 : BitVec 1 := Scalar.cmpi .slt v403 c0_i32_263
  let v408 : BitVec 1 := Scalar.xori v406 v407
  let c0_i32_261 : BitVec 32 := 0#32
  let v405 : BitVec 1 := Scalar.cmpi .ne v404 c0_i32_261
  let v409 : BitVec 1 := Scalar.andi v408 v405
  let v410 : BitVec 32 := Scalar.addi v404 v403
  let v411 : BitVec 32 := Scalar.select v409 v410 v404
  let c1_i32_267 : BitVec 32 := 1#32
  let v412 : BitVec 32 := Scalar.muli v411 c1_i32_267
  let v413 : BitVec 32 := Scalar.addi c0_i32_268 v412
  v413.toNat
def k0_dev24 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_271 : BitVec 32 := 9#32
  let v420 : BitVec 32 := Scalar.addi v2 c9_i32_271
  let c16_i32_272 : BitVec 32 := 16#32
  let c0_i32_273 : BitVec 32 := 0#32
  let v421 : BitVec 1 := Scalar.cmpi .eq c16_i32_272 c0_i32_273
  let c1_i32_274 : BitVec 32 := 1#32
  let v422 : BitVec 32 := Scalar.select v421 c1_i32_274 c16_i32_272
  let v423 : BitVec 32 := Scalar.remsi v420 v422
  let c0_i32_276 : BitVec 32 := 0#32
  let v425 : BitVec 1 := Scalar.cmpi .slt v423 c0_i32_276
  let c0_i32_277 : BitVec 32 := 0#32
  let v426 : BitVec 1 := Scalar.cmpi .slt v422 c0_i32_277
  let v427 : BitVec 1 := Scalar.xori v425 v426
  let c0_i32_275 : BitVec 32 := 0#32
  let v424 : BitVec 1 := Scalar.cmpi .ne v423 c0_i32_275
  let v428 : BitVec 1 := Scalar.andi v427 v424
  let v429 : BitVec 32 := Scalar.addi v423 v422
  let v430 : BitVec 32 := Scalar.select v428 v429 v423
  let c1_i32_281 : BitVec 32 := 1#32
  let v431 : BitVec 32 := Scalar.muli v430 c1_i32_281
  let v432 : BitVec 32 := Scalar.addi c0_i32_282 v431
  v432.toNat
def k0_dev25 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_285 : BitVec 32 := 10#32
  let v439 : BitVec 32 := Scalar.addi v2 c10_i32_285
  let c16_i32_286 : BitVec 32 := 16#32
  let c0_i32_287 : BitVec 32 := 0#32
  let v440 : BitVec 1 := Scalar.cmpi .eq c16_i32_286 c0_i32_287
  let c1_i32_288 : BitVec 32 := 1#32
  let v441 : BitVec 32 := Scalar.select v440 c1_i32_288 c16_i32_286
  let v442 : BitVec 32 := Scalar.remsi v439 v441
  let c0_i32_290 : BitVec 32 := 0#32
  let v444 : BitVec 1 := Scalar.cmpi .slt v442 c0_i32_290
  let c0_i32_291 : BitVec 32 := 0#32
  let v445 : BitVec 1 := Scalar.cmpi .slt v441 c0_i32_291
  let v446 : BitVec 1 := Scalar.xori v444 v445
  let c0_i32_289 : BitVec 32 := 0#32
  let v443 : BitVec 1 := Scalar.cmpi .ne v442 c0_i32_289
  let v447 : BitVec 1 := Scalar.andi v446 v443
  let v448 : BitVec 32 := Scalar.addi v442 v441
  let v449 : BitVec 32 := Scalar.select v447 v448 v442
  let c1_i32_295 : BitVec 32 := 1#32
  let v450 : BitVec 32 := Scalar.muli v449 c1_i32_295
  let v451 : BitVec 32 := Scalar.addi c0_i32_296 v450
  v451.toNat
def k0_dev26 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_299 : BitVec 32 := 11#32
  let v458 : BitVec 32 := Scalar.addi v2 c11_i32_299
  let c16_i32_300 : BitVec 32 := 16#32
  let c0_i32_301 : BitVec 32 := 0#32
  let v459 : BitVec 1 := Scalar.cmpi .eq c16_i32_300 c0_i32_301
  let c1_i32_302 : BitVec 32 := 1#32
  let v460 : BitVec 32 := Scalar.select v459 c1_i32_302 c16_i32_300
  let v461 : BitVec 32 := Scalar.remsi v458 v460
  let c0_i32_304 : BitVec 32 := 0#32
  let v463 : BitVec 1 := Scalar.cmpi .slt v461 c0_i32_304
  let c0_i32_305 : BitVec 32 := 0#32
  let v464 : BitVec 1 := Scalar.cmpi .slt v460 c0_i32_305
  let v465 : BitVec 1 := Scalar.xori v463 v464
  let c0_i32_303 : BitVec 32 := 0#32
  let v462 : BitVec 1 := Scalar.cmpi .ne v461 c0_i32_303
  let v466 : BitVec 1 := Scalar.andi v465 v462
  let v467 : BitVec 32 := Scalar.addi v461 v460
  let v468 : BitVec 32 := Scalar.select v466 v467 v461
  let c1_i32_309 : BitVec 32 := 1#32
  let v469 : BitVec 32 := Scalar.muli v468 c1_i32_309
  let v470 : BitVec 32 := Scalar.addi c0_i32_310 v469
  v470.toNat
def k0_dev27 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_313 : BitVec 32 := 12#32
  let v477 : BitVec 32 := Scalar.addi v2 c12_i32_313
  let c16_i32_314 : BitVec 32 := 16#32
  let c0_i32_315 : BitVec 32 := 0#32
  let v478 : BitVec 1 := Scalar.cmpi .eq c16_i32_314 c0_i32_315
  let c1_i32_316 : BitVec 32 := 1#32
  let v479 : BitVec 32 := Scalar.select v478 c1_i32_316 c16_i32_314
  let v480 : BitVec 32 := Scalar.remsi v477 v479
  let c0_i32_318 : BitVec 32 := 0#32
  let v482 : BitVec 1 := Scalar.cmpi .slt v480 c0_i32_318
  let c0_i32_319 : BitVec 32 := 0#32
  let v483 : BitVec 1 := Scalar.cmpi .slt v479 c0_i32_319
  let v484 : BitVec 1 := Scalar.xori v482 v483
  let c0_i32_317 : BitVec 32 := 0#32
  let v481 : BitVec 1 := Scalar.cmpi .ne v480 c0_i32_317
  let v485 : BitVec 1 := Scalar.andi v484 v481
  let v486 : BitVec 32 := Scalar.addi v480 v479
  let v487 : BitVec 32 := Scalar.select v485 v486 v480
  let c1_i32_323 : BitVec 32 := 1#32
  let v488 : BitVec 32 := Scalar.muli v487 c1_i32_323
  let v489 : BitVec 32 := Scalar.addi c0_i32_324 v488
  v489.toNat
def k0_dev28 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v496 : BitVec 32 := Scalar.addi v2 c13_i32_327
  let c16_i32_328 : BitVec 32 := 16#32
  let c0_i32_329 : BitVec 32 := 0#32
  let v497 : BitVec 1 := Scalar.cmpi .eq c16_i32_328 c0_i32_329
  let c1_i32_330 : BitVec 32 := 1#32
  let v498 : BitVec 32 := Scalar.select v497 c1_i32_330 c16_i32_328
  let v499 : BitVec 32 := Scalar.remsi v496 v498
  let c0_i32_332 : BitVec 32 := 0#32
  let v501 : BitVec 1 := Scalar.cmpi .slt v499 c0_i32_332
  let c0_i32_333 : BitVec 32 := 0#32
  let v502 : BitVec 1 := Scalar.cmpi .slt v498 c0_i32_333
  let v503 : BitVec 1 := Scalar.xori v501 v502
  let c0_i32_331 : BitVec 32 := 0#32
  let v500 : BitVec 1 := Scalar.cmpi .ne v499 c0_i32_331
  let v504 : BitVec 1 := Scalar.andi v503 v500
  let v505 : BitVec 32 := Scalar.addi v499 v498
  let v506 : BitVec 32 := Scalar.select v504 v505 v499
  let c1_i32_337 : BitVec 32 := 1#32
  let v507 : BitVec 32 := Scalar.muli v506 c1_i32_337
  let v508 : BitVec 32 := Scalar.addi c0_i32_338 v507
  v508.toNat
def k0_dev29 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_341 : BitVec 32 := 14#32
  let v515 : BitVec 32 := Scalar.addi v2 c14_i32_341
  let c16_i32_342 : BitVec 32 := 16#32
  let c0_i32_343 : BitVec 32 := 0#32
  let v516 : BitVec 1 := Scalar.cmpi .eq c16_i32_342 c0_i32_343
  let c1_i32_344 : BitVec 32 := 1#32
  let v517 : BitVec 32 := Scalar.select v516 c1_i32_344 c16_i32_342
  let v518 : BitVec 32 := Scalar.remsi v515 v517
  let c0_i32_346 : BitVec 32 := 0#32
  let v520 : BitVec 1 := Scalar.cmpi .slt v518 c0_i32_346
  let c0_i32_347 : BitVec 32 := 0#32
  let v521 : BitVec 1 := Scalar.cmpi .slt v517 c0_i32_347
  let v522 : BitVec 1 := Scalar.xori v520 v521
  let c0_i32_345 : BitVec 32 := 0#32
  let v519 : BitVec 1 := Scalar.cmpi .ne v518 c0_i32_345
  let v523 : BitVec 1 := Scalar.andi v522 v519
  let v524 : BitVec 32 := Scalar.addi v518 v517
  let v525 : BitVec 32 := Scalar.select v523 v524 v518
  let c1_i32_351 : BitVec 32 := 1#32
  let v526 : BitVec 32 := Scalar.muli v525 c1_i32_351
  let v527 : BitVec 32 := Scalar.addi c0_i32_352 v526
  v527.toNat
def k0_dev30 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_355 : BitVec 32 := 15#32
  let v534 : BitVec 32 := Scalar.addi v2 c15_i32_355
  let c16_i32_356 : BitVec 32 := 16#32
  let c0_i32_357 : BitVec 32 := 0#32
  let v535 : BitVec 1 := Scalar.cmpi .eq c16_i32_356 c0_i32_357
  let c1_i32_358 : BitVec 32 := 1#32
  let v536 : BitVec 32 := Scalar.select v535 c1_i32_358 c16_i32_356
  let v537 : BitVec 32 := Scalar.remsi v534 v536
  let c0_i32_360 : BitVec 32 := 0#32
  let v539 : BitVec 1 := Scalar.cmpi .slt v537 c0_i32_360
  let c0_i32_361 : BitVec 32 := 0#32
  let v540 : BitVec 1 := Scalar.cmpi .slt v536 c0_i32_361
  let v541 : BitVec 1 := Scalar.xori v539 v540
  let c0_i32_359 : BitVec 32 := 0#32
  let v538 : BitVec 1 := Scalar.cmpi .ne v537 c0_i32_359
  let v542 : BitVec 1 := Scalar.andi v541 v538
  let v543 : BitVec 32 := Scalar.addi v537 v536
  let v544 : BitVec 32 := Scalar.select v542 v543 v537
  let c1_i32_365 : BitVec 32 := 1#32
  let v545 : BitVec 32 := Scalar.muli v544 c1_i32_365
  let v546 : BitVec 32 := Scalar.addi c0_i32_366 v545
  v546.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x65536 : Shape := ⟨2, ![512, 65536]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S512x65536, .i32⟩
  | .hbm, ⟨3, _⟩ => ⟨S512x65536, .f32⟩
  | .hbm, ⟨4, _⟩ => ⟨S512x65536, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
# The exchange: cells, duties and what each hands over

Sixteen devices each publish their eight candidate rows to the fifteen others. Before it sends, a device raises every
other device's barrier semaphore once and waits until its own has been raised fifteen times; it then sends its candidate
buffer to the device `d` places on, into that device's slot `d`, for `d = 1, …, 15`; then it waits for its own fifteen
slots and for its own fifteen sends.

This module names the cells (the barrier, the sixteen send and the sixteen receive semaphores of each device), what each
raise of a cell hands over, what a device owes at the start, and the levels that make every wait safe.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's copy and the exchange's, whose duties are named by `Fin 16` -/

abbrev UX : Type := URounds (GSem nD τ sig) (Fin 16)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The devices around the ring -/

set_option backward.proofsInPublic true in
/-- The device `d` places after `c`. -/
def fwd (c : Dev nD) (d : Fin 16) : Dev nD := ⟨(c.val + d.val) % 16, Nat.mod_lt _ (by decide)⟩
set_option backward.proofsInPublic true in
/-- The device `d` places before `c`. -/
def frm (c : Dev nD) (d : Fin 16) : Dev nD := ⟨(c.val + (16 - d.val)) % 16, Nat.mod_lt _ (by decide)⟩

theorem frm_fwd (c : Dev nD) (d : Fin 16) : frm (fwd c d) d = c := by revert c d; decide +kernel
theorem fwd_frm (c : Dev nD) (d : Fin 16) : fwd (frm c d) d = c := by revert c d; decide +kernel
theorem fwd_fwd_neg (c : Dev nD) (d : Fin 16) : fwd (fwd c d) (-d) = c := by revert c d; decide +kernel
theorem fwd_neg_fwd (c : Dev nD) (d : Fin 16) : fwd (fwd c (-d)) d = c := by revert c d; decide +kernel
theorem frm_zero (c : Dev nD) : frm c 0 = c := by revert c; decide +kernel
theorem neg_ne_zero {d : Fin 16} (h : d ≠ 0) : -d ≠ 0 := by revert d; decide +kernel

/-- Going `d` places on is a bijection of the devices. -/
def shift (d : Fin 16) : Dev nD ≃ Dev nD := ⟨fun c => fwd c d, fun c => frm c d, fun c => frm_fwd c d, fun c => fwd_frm c d⟩

/-! ## The places not yet done: `rest n` is `{n, …, 15}` -/

def rest (n : ℕ) : Finset (Fin 16) := Finset.univ.filter fun d => n ≤ d.val
/-- The places done: `done n` is `{1, …, n - 1}`. -/
def done (n : ℕ) : Finset (Fin 16) := Finset.univ.filter fun d => 1 ≤ d.val ∧ d.val < n

theorem rest_step (d : Fin 16) : rest d.val = insert d (rest (d.val + 1)) := by revert d; decide +kernel
theorem not_mem_rest (d : Fin 16) : d ∉ rest (d.val + 1) := by revert d; decide +kernel
theorem done_step (d : Fin 16) (h : d ≠ 0) : done (d.val + 1) = insert d (done d.val) := by revert d; decide +kernel
theorem not_mem_done (d : Fin 16) : d ∉ done d.val := by revert d; decide +kernel
theorem rest_end : rest 16 = ∅ := by decide +kernel
theorem done_one : done 1 = ∅ := by decide +kernel
theorem done_end : done 16 = rest 1 := by decide +kernel
theorem univ_eq : (Finset.univ : Finset (Fin 16)) = insert 0 (rest 1) := by decide +kernel
theorem zero_not_mem : (0 : Fin 16) ∉ rest 1 := by decide +kernel
theorem mem_rest_one {d : Fin 16} : d ∈ rest 1 ↔ d ≠ 0 := by revert d; decide +kernel

/-! ## The memrefs and cells -/

abbrev xM : Memref sig .tc .vmem S512x4096 .f32 := Memref.whole cc0_stg0_0
abbrev oM : Memref sig .tc .vmem S512x16 .f32 := Memref.whole cc0_stg1_0
abbrev cM : Memref sig .tc .vmem S8x512 .f32 := Memref.whole cc0_scratch0
abbrev gM : Memref sig .tc .vmem S16x8x512 .f32 := Memref.whole cc0_scratch1

abbrev slotOff (d : Fin 16) : Fin 3 → ℕ := ![d.val, 0, 0]
theorem slotOff_inb (d : Fin 16) : ∀ a, slotOff d a + S1x8x512.size a ≤ S16x8x512.size a := by revert d; decide
/-- The rectangle of slot `d` of the gather buffer. -/
abbrev slotRect (d : Fin 16) : Rect S16x8x512 := Rect.unit (s := S16x8x512) (slotOff d) S1x8x512.size (slotOff_inb d)
/-- Slot `d` of the gather buffer, as the transfers name it. -/
abbrev slot (d : Fin 16) : Memref sig .tc .vmem S8x512 .f32 :=
  (gM.slice (slotRect d) (fun _ => rfl)).squeeze S8x512 squeezes_S1x8x512_S8x512

/-- The runtime's barrier semaphore, the send and the receive semaphores of place `d`. -/
abbrev barS : Sem sig := (SemArray.scalar (sig.barrier 0 rfl) : Sems sig S_).sem
set_option backward.proofsInPublic true in
def sendS (d : Fin 16) : DmaSem sig := ⟨2 + d.val, by have := d.isLt; show 2 + d.val < 34; omega⟩
set_option backward.proofsInPublic true in
def recvS (d : Fin 16) : DmaSem sig := ⟨18 + d.val, by have := d.isLt; show 18 + d.val < 34; omega⟩

abbrev barCell (c : Dev nD) : GSem nD τ sig := ((c : Thread nD τ), .reg barS)
abbrev sendCell (c : Dev nD) (d : Fin 16) : GSem nD τ sig := ((c : Thread nD τ), .dma (sendS d))
abbrev recvCell (c : Dev nD) (d : Fin 16) : GSem nD τ sig := ((c : Thread nD τ), .dma (recvS d))

set_option backward.proofsInPublic true in
/-- The kernel's own semaphores as the launch lists them: the sends, then the receives. -/
def osem (k : Fin 32) : SemLoc sig := .dma ⟨2 + k.val, by have := k.isLt; show 2 + k.val < 34; omega⟩
/-- All the semaphores of the exchange: the barrier, then the kernel's own. -/
def csem (k : Option (Fin 32)) : SemLoc sig := match k with | none => .reg barS | some k => osem k
abbrev kcell (ck : Dev nD × Option (Fin 32)) : GSem nD τ sig := ((ck.1 : Thread nD τ), csem ck.2)

set_option backward.proofsInPublic true in
/-- The index of a send semaphore in that list; -/
def sIx (d : Fin 16) : Option (Fin 32) := some ⟨d.val, by omega⟩
set_option backward.proofsInPublic true in
/-- and of a receive semaphore. -/
def rIx (d : Fin 16) : Option (Fin 32) := some ⟨16 + d.val, by omega⟩
theorem csem_sIx (d : Fin 16) : csem (sIx d) = .dma (sendS d) := rfl
theorem csem_rIx (d : Fin 16) : csem (rIx d) = .dma (recvS d) := by
  unfold csem rIx osem recvS; simp only [SemLoc.dma.injEq]; exact Fin.ext (by show 2 + (16 + d.val) = 18 + d.val; omega)

/-- The credit of one slot's transfer. -/
abbrev N : ℕ := (cM : Memref sig .tc .vmem S8x512 .f32).view.dmaCredit
theorem N_pos : 0 < N := View.dmaCredit_pos _ (by decide)

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The candidate rows a block yields. -/
def candOf (x : Vec F S512x4096 .f32) : Vec F S8x512 .f32 :=
  k0_pay12 (k0_pay4 x) (k0_pay5 x) (k0_pay6 x) (k0_pay7 x) (k0_pay8 x) (k0_pay9 x) (k0_pay10 x)
/-- Device `c`'s candidates. -/
def cand (c : Dev nD) : (cc0_scratch0 : Ref sig .tc).ty.Contents (Elt F) := candOf (xstg m ρ c)

/-- Device `c`'s gather buffer when the exchange is over: slot `d` holds the candidates of the device `d` places before. -/
def gath (c : Dev nD) : (cc0_scratch1 : Ref sig .tc).ty.Contents (Elt F) :=
  fun i : S16x8x512.Idx => cand m ρ (frm c (i 0)) (Fin.tail i)

/-- Device `c`'s slot `d` held at contents `f` of the gather buffer. -/
def slotPts (c : Dev nD) (d : Fin 16) (f : Buf (Elt F) ((c : Thread nD τ).loc cc0_scratch1)) : sProp 𝕄 :=
  ((c : Thread nD τ).loc cc0_scratch1) ↦[(slot d : Memref sig .tc .vmem S8x512 .f32).view.set]{fullShare} f
/-- Device `c`'s candidate buffer read at the share lent to the send of place `d`. -/
def candTok (c : Dev nD) (d : Fin 16) : sProp 𝕄 :=
  ((c : Thread nD τ).loc cc0_scratch0) ↦{Transfers.shareTok fullShare 16 d} cand m ρ c

omit [FloatOps F] in
instance slotPts_storable (c : Dev nD) (d : Fin 16) (f) : BI.Storable (upEmb : UEmb _ 𝕄) (slotPts (F := F) c d f) := by
  unfold slotPts; infer_instance
instance candTok_storable (c : Dev nD) (d : Fin 16) : BI.Storable (upEmb : UEmb _ 𝕄) (candTok (F := F) m ρ c d) := by
  unfold candTok; infer_instance

/-! ### The slots: where they sit, disjoint, covering -/

theorem slot_set (d : Fin 16) : (slot d : Memref sig .tc .vmem S8x512 .f32).view.set = (slotRect d).set := by
  show (((View.whole cc0_scratch1).slice (slotRect d)).reshape S8x512 _).set = _
  rw [View.set_reshape, View.set_slice_whole]

theorem slot_emb (d : Fin 16) (z : S8x512.Idx) :
    (slot d : Memref sig .tc .vmem S8x512 .f32).view.emb z = (slotRect d).emb (Fin.cons ⟨0, Nat.one_pos⟩ z) := by
  show (((View.whole cc0_scratch1).slice _).reshape S8x512 _).emb z = _
  rw [View.emb_reshape, View.emb_slice, View.emb_whole]
  show (slotRect d).emb (Shape.reshapeEquiv _ z) = _
  rw [Shape.reshapeEquiv_cons_one]

theorem slot_emb_zero (d : Fin 16) (z : S8x512.Idx) :
    ((slotRect d).emb (Fin.cons ⟨0, Nat.one_pos⟩ z) : S16x8x512.Idx) 0 = d :=
  Fin.ext (by rw [Rect.emb_apply]; rfl)
theorem slot_emb_tail (d : Fin 16) (z : S8x512.Idx) :
    Fin.tail ((slotRect d).emb (Fin.cons ⟨0, Nat.one_pos⟩ z) : S16x8x512.Idx) = z := by
  funext a
  refine Fin.ext ?_
  show ((slotRect d).emb _ a.succ).val = _
  rw [Rect.emb_apply]
  fin_cases a <;> exact (Nat.zero_add _).trans (Nat.one_mul _)

theorem slots_disjoint (d d' : Fin 16) (h : d ≠ d') : Disjoint (slotRect d).set (slotRect d').set :=
  Ring.lead_disjoint (0 : Fin S16x8x512.rank) 1 slotOff S1x8x512.size slotOff_inb (fun b => (Nat.one_mul _).symm) rfl d d' h
theorem slots_cover : Finset.univ.biUnion (fun d : Fin 16 => (slotRect d).set) = Finset.univ :=
  Ring.lead_cover (0 : Fin S16x8x512.rank) 1 slotOff S1x8x512.size slotOff_inb (fun b => (Nat.one_mul _).symm)
    (fun b a ha => by fin_cases a <;> first | exact absurd rfl ha | rfl) rfl (fun a ha => by fin_cases a <;> first | exact absurd rfl ha | rfl) rfl

omit [FloatOps F] in
/-- The gather buffer held whole is its sixteen slots held. -/
theorem gather_slots (c : Dev nD) (f : Buf (Elt F) ((c : Thread nD τ).loc cc0_scratch1)) :
    (((c : Thread nD τ).loc cc0_scratch1) ↦{fullShare} f : sProp 𝕄) = bigSep Finset.univ fun d => slotPts c d f := by
  rw [bigSep_congr fun d _ => show slotPts c d f = (((c : Thread nD τ).loc cc0_scratch1) ↦[(slotRect d).set]{fullShare} f : sProp 𝕄) by
    unfold slotPts; rw [slot_set]]
  exact Ring.pointsTo_blocks (ℓ := (c : Thread nD τ).loc cc0_scratch1) (fun d : Fin 16 => (slotRect d).set) slots_disjoint slots_cover f

/-- Candidates `v` written over slot `d` of any contents read, on that slot, as the gather buffer at the end — when they
    are the candidates of the device `d` places before. -/
theorem slot_landed (c : Dev nD) (d : Fin 16) (fd : Buf (Elt F) ((c : Thread nD τ).loc cc0_scratch1)) (v : S8x512.Idx → Elt F .f32)
    (hv : v = cand m ρ (frm c d)) :
    (((c : Thread nD τ).loc cc0_scratch1) ↦[(slot d : Memref sig .tc .vmem S8x512 .f32).view.set]{fullShare}
        ((slot d : Memref sig .tc .vmem S8x512 .f32).view.write (Elt F) fd v Finset.univ) : sProp 𝕄) = slotPts c d (gath m ρ c) := by
  subst hv
  unfold slotPts
  refine pointsTo_congr fun i hi => ?_
  obtain ⟨z, -, rfl⟩ := Finset.mem_map.mp hi
  rw [View.write_emb_of_mem _ _ (Finset.mem_univ _), slot_emb]
  unfold gath
  rw [slot_emb_zero, slot_emb_tail]
  rfl

/-! ## The schedule -/

/-- What device `c`'s barrier hands it, raised by the device `d` places after it: that device's slot `d`, which the send to
    it is to fill. -/
def barPay (c : Dev nD) (d : Fin 16) : sProp 𝕄 := iprop(∃ f, slotPts (fwd c d) d f)

/-- The place a transfer semaphore serves. -/
def place (s : DmaSem sig) : Fin 16 := Fin.ofNat 16 (s.val - 2)
theorem place_send (d : Fin 16) : place (sendS d) = d := by revert d; decide +kernel
theorem place_recv (d : Fin 16) : place (recvS d) = d := by revert d; decide +kernel

abbrev IsRecv (s : DmaSem sig) : Prop := 18 ≤ s.val
theorem isRecv_recv (d : Fin 16) : IsRecv (recvS d) := Nat.le_add_right 18 d.val
theorem not_isRecv_send (d : Fin 16) : ¬ IsRecv (sendS d) := by unfold IsRecv sendS; dsimp only; omega

/-- The duties of a semaphore in the one round there is: a barrier is raised from the fifteen other places, a transfer
    semaphore of a place other than 0 once. -/
def duty (s : SemLoc sig) : Finset (Fin 16) := match s with
  | .reg _ => rest 1
  | .dma s => if place s = 0 then ∅ else {0}

def amt (s : SemLoc sig) : ℕ := match s with | .reg _ => 1 | .dma _ => N

def pay (c : Dev nD) (s : SemLoc sig) (d : Fin 16) : sProp 𝕄 := match s with
  | .reg _ => barPay c d
  | .dma s => if IsRecv s then slotPts c (place s) (gath m ρ c) else candTok m ρ c (place s)

/-- One round, round 0: duties `duty`, amounts `amt`, payloads `pay`. -/
def rd : Rounds.Schedule (GSem nD τ sig) (Fin 16) 𝕄 where
  duties g r := if r = 0 ∧ g.1.2 = .tc then duty g.2 else ∅
  unitless _ := False
  amount g _ _ := amt g.2
  payload g _ d := pay m ρ g.1.1 g.2 d
  amount_pos g _ _ _ := by
    unfold amt
    rcases g.2 with s | s
    · exact Nat.one_pos
    · exact N_pos

instance rd_payload_storable (g : GSem nD τ sig) (r : ℕ) (d : Fin 16) :
    BI.Storable (upEmb : UEmb _ 𝕄) ((rd (F := F) m ρ).payload g r d) := by
  show BI.Storable upEmb (pay m ρ g.1.1 g.2 d)
  unfold pay barPay
  (repeat' split) <;> infer_instance

section Sched
variable (c : Dev nD) (d : Fin 16)

theorem duties_bar : (rd (F := F) m ρ).duties (barCell c) 0 = rest 1 := by dsimp only [rd]; exact if_pos ⟨rfl, rfl⟩
theorem duties_send (h : d ≠ 0) : (rd (F := F) m ρ).duties (sendCell c d) 0 = {0} := by
  dsimp only [rd]; rw [if_pos ⟨rfl, rfl⟩]; unfold duty; dsimp only; rw [place_send, if_neg h]
theorem duties_recv (h : d ≠ 0) : (rd (F := F) m ρ).duties (recvCell c d) 0 = {0} := by
  dsimp only [rd]; rw [if_pos ⟨rfl, rfl⟩]; unfold duty; dsimp only; rw [place_recv, if_neg h]
theorem duties_send_zero (r : ℕ) : (rd (F := F) m ρ).duties (sendCell c 0) r = ∅ := by
  dsimp only [rd]; split
  · unfold duty; dsimp only; rw [place_send, if_pos rfl]
  · rfl
theorem duties_recv_zero (r : ℕ) : (rd (F := F) m ρ).duties (recvCell c 0) r = ∅ := by
  dsimp only [rd]; split
  · unfold duty; dsimp only; rw [place_recv, if_pos rfl]
  · rfl
theorem duties_later (g : GSem nD τ sig) : ∀ r, 1 ≤ r → (rd (F := F) m ρ).duties g r = ∅ :=
  fun r hr => by dsimp only [rd]; rw [if_neg fun h => by omega]

theorem amount_bar (e : Fin 16) : (rd (F := F) m ρ).amount (barCell c) 0 e = 1 := rfl
theorem amount_send (e : Fin 16) : (rd (F := F) m ρ).amount (sendCell c d) 0 e = N := rfl
theorem amount_recv (e : Fin 16) : (rd (F := F) m ρ).amount (recvCell c d) 0 e = N := rfl

theorem expect_bar : (rd (F := F) m ρ).expect (barCell c) 0 = 15 := by
  unfold Schedule.expect Schedule.amountOf
  rw [duties_bar, Finset.sum_congr rfl fun d _ => amount_bar m ρ c d, Finset.sum_const, smul_eq_mul, Nat.mul_one]
  decide +kernel
theorem expect_send (h : d ≠ 0) : (rd (F := F) m ρ).expect (sendCell c d) 0 = N := by
  unfold Schedule.expect Schedule.amountOf; rw [duties_send m ρ c d h, Finset.sum_singleton, amount_send]
theorem expect_recv (h : d ≠ 0) : (rd (F := F) m ρ).expect (recvCell c d) 0 = N := by
  unfold Schedule.expect Schedule.amountOf; rw [duties_recv m ρ c d h, Finset.sum_singleton, amount_recv]

theorem payload_bar (e : Fin 16) : (rd (F := F) m ρ).payload (barCell c) 0 e = barPay c e := rfl
theorem payload_send (e : Fin 16) : (rd (F := F) m ρ).payload (sendCell c d) 0 e = candTok m ρ c d := by
  show pay m ρ c (.dma (sendS d)) e = _
  unfold pay; dsimp only; rw [if_neg (not_isRecv_send d), place_send]
theorem payload_recv (e : Fin 16) : (rd (F := F) m ρ).payload (recvCell c d) 0 e = slotPts c d (gath m ρ c) := by
  show pay m ρ c (.dma (recvS d)) e = _
  unfold pay; dsimp only; rw [if_pos (isRecv_recv d), place_recv]

theorem rest_bar : bigSep ((rd (F := F) m ρ).duties (barCell c) 0 \ ∅) (fun e => (rd (F := F) m ρ).payload (barCell c) 0 e) = bigSep (rest 1) (barPay c) := by
  rw [Finset.sdiff_empty, duties_bar]; rfl
theorem rest_send (h : d ≠ 0) : bigSep ((rd (F := F) m ρ).duties (sendCell c d) 0 \ ∅) (fun e => (rd (F := F) m ρ).payload (sendCell c d) 0 e) = candTok m ρ c d := by
  rw [Finset.sdiff_empty, duties_send m ρ c d h, bigSep_singleton, payload_send]
theorem rest_recv (h : d ≠ 0) : bigSep ((rd (F := F) m ρ).duties (recvCell c d) 0 \ ∅) (fun e => (rd (F := F) m ρ).payload (recvCell c d) 0 e) = slotPts c d (gath m ρ c) := by
  rw [Finset.sdiff_empty, duties_recv m ρ c d h, bigSep_singleton, payload_recv]

end Sched

/-! ## What each core owes; the levels -/

/-- The receive credits of the sends of places `n, …, 15`; -/
def Orecv (c : Dev nD) (n : ℕ) : CellTallies nD τ sig Unit := ∑ d ∈ rest n, tallyAt (recvCell (fwd c d) d) () N
/-- the barrier raises of places `n, …, 15` over them. -/
def Obar (c : Dev nD) (n : ℕ) : CellTallies nD τ sig Unit := Orecv c 1 + ∑ d ∈ rest n, tallyAt (barCell (fwd c d)) () 1

theorem Orecv_step (c : Dev nD) (d : Fin 16) : Orecv c d.val = Orecv c (d.val + 1) + tallyAt (recvCell (fwd c d) d) () N := by
  unfold Orecv; rw [rest_step, Finset.sum_insert (not_mem_rest d), add_comm]
theorem Obar_step (c : Dev nD) (d : Fin 16) : Obar c d.val = Obar c (d.val + 1) + tallyAt (barCell (fwd c d)) () 1 := by
  unfold Obar; rw [rest_step, Finset.sum_insert (not_mem_rest d), add_comm (tallyAt _ _ _), add_assoc]
theorem Orecv_end (c : Dev nD) : Orecv c 16 = 0 := by unfold Orecv; rw [rest_end, Finset.sum_empty]
theorem Obar_end (c : Dev nD) : Obar c 16 = Orecv c 1 := by unfold Obar; rw [rest_end, Finset.sum_empty, add_zero]

def L (g : GSem nD τ sig) : Finset Unit := if g.1.2 = .tc then {()} else ∅
/-- Barrier cells at level 1, receive cells at 2, everything else (staging, sends) at 0. -/
def lv (g : GSem nD τ sig) (_ : Unit) : ℕ := match g.2 with | .reg _ => 1 | .dma s => if IsRecv s then 2 else 0

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {S : Finset (Fin 16)} {f : Fin 16 → GSem nD τ sig} {n : ℕ} {g : GSem nD τ sig} {u : Unit}
    (h : 0 < (∑ d ∈ S, tallyAt (f d) () n : CellTallies nD τ sig Unit) g u) : ∃ d ∈ S, g = f d := by
  rw [Finset.sum_apply, Finsupp.finset_sum_apply] at h
  obtain ⟨d, hd, hn⟩ := Finset.exists_ne_zero_of_sum_ne_zero (Nat.pos_iff_ne_zero.mp h)
  refine ⟨d, hd, ?_⟩
  by_contra hg
  rw [tallyAt_apply, if_neg (fun h' => hg h'.1)] at hn
  exact hn rfl

theorem Orecv_pos {c : Dev nD} {n : ℕ} {g : GSem nD τ sig} {u : Unit} (h : 0 < Orecv c n g u) : ∃ d, g = recvCell (fwd c d) d := by
  obtain ⟨d, -, hd⟩ := sum_tally_pos h; exact ⟨d, hd⟩
theorem Obar_pos {c : Dev nD} {n : ℕ} {g : GSem nD τ sig} {u : Unit} (h : 0 < Obar c n g u) :
    (∃ d, g = recvCell (fwd c d) d) ∨ ∃ d, g = barCell (fwd c d) := by
  unfold Obar at h
  rw [Pi.add_apply, Finsupp.add_apply] at h
  rcases Nat.eq_zero_or_pos (Orecv c 1 g u) with h0 | h0
  · rw [h0, Nat.zero_add] at h
    obtain ⟨d, -, hd⟩ := sum_tally_pos h; exact .inr ⟨d, hd⟩
  · exact .inl (Orecv_pos h0)

theorem lv_recv (c : Dev nD) (d : Fin 16) (u : Unit) : lv (recvCell c d) u = 2 := if_pos (isRecv_recv d)
theorem lv_bar (c : Dev nD) (u : Unit) : lv (barCell c) u = 1 := rfl

omit [FloatOps F] in
/-- A staging semaphore may be waited for whatever the device owes: what it owes lies above. -/
theorem mayWait_stage (c : Dev nD) (q : DmaSem sig) (hq : ¬ IsRecv q) (O : CellTallies nD τ sig Unit) (hO : O = Obar c 1 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Obar_pos hg with ⟨d, rfl⟩ | ⟨d, rfl⟩ <;> exact Finset.mem_singleton_self _)
      (fun p hp => by rw [Finset.mem_singleton.mp hp]; dsimp only [lv]; rw [if_neg hq])
      (fun g u hg => by
        rcases Obar_pos hg with ⟨d, rfl⟩ | ⟨d, rfl⟩
        · rw [lv_recv]; decide
        · rw [lv_bar]; decide)
  · rw [MayWait_zero]; iintro -; iempintro

omit [FloatOps F] in
/-- At its barrier wait a device owes receive credits only: they lie above its barrier. -/
theorem mayWait_bar (c : Dev nD) :
    (levAts L lv : sProp 𝕄) ⊢ MayWait (c : Thread nD τ) (.reg barS) () (Orecv c 1) :=
  MayOwe.of_cut (L := L) (lev := lv) 1 (fun p hp => by rw [Finset.mem_singleton.mp hp, L_tc]; exact Finset.mem_singleton_self _)
    (fun g u hg => by obtain ⟨d, rfl⟩ := Orecv_pos hg; exact Finset.mem_singleton_self _)
    (fun p hp => by rw [Finset.mem_singleton.mp hp]; dsimp only [lv]; exact Nat.le_refl 1)
    (fun g u hg => by obtain ⟨d, rfl⟩ := Orecv_pos hg; rw [lv_recv]; decide)

end Cert.TopK

end
-- ==== Proof.Steps.lean ====
/-
# One step of each phase of the exchange

A device's body is four runs of fifteen like operations: raise the barriers, send, wait for the receives, wait for the
sends. Each run has one state indexed by the place it has come to, and one lemma per operation that moves it on by one.
-/
module

public import proofs.«01_k».proof.Proof.Protocol

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows: the cells' invariants, and that each has reached its first round -/

abbrev Names : Type := Dev nD × Option (Fin 32) → ℕ

def records (K : Names) : sProp 𝕄 :=
  iprop((bigSep Finset.univ fun ck : Dev nD × Option (Fin 32) => cellInv EX (rd m ρ) (K ck) (kcell ck))
    ∗ bigSep Finset.univ fun ck : Dev nD × Option (Fin 32) => reached EX (kcell ck) 0)

instance records_persistent (K : Names) : BI.Persistent (records m ρ K) := by unfold records; infer_instance

section Know
variable (K : Names) (c : Dev nD) (d : Fin 16)

theorem inv_of (ck : Dev nD × Option (Fin 32)) :
    (bigSep Finset.univ fun ck : Dev nD × Option (Fin 32) => (cellInv EX (rd m ρ) (K ck) (kcell ck) : sProp 𝕄)) ⊢ cellInv EX (rd m ρ) (K ck) (kcell ck) :=
  bigSep_elim (Finset.mem_univ ck)
theorem reached_of (ck : Dev nD × Option (Fin 32)) :
    (bigSep Finset.univ fun ck : Dev nD × Option (Fin 32) => (reached EX (kcell ck) 0 : sProp 𝕄)) ⊢ reached EX (kcell ck) 0 :=
  bigSep_elim (Finset.mem_univ ck)
theorem inv_at (ck : Dev nD × Option (Fin 32)) : records m ρ K ⊢ (cellInv EX (rd m ρ) (K ck) (kcell ck) : sProp 𝕄) := by
  unfold records
  iintro ⟨H, -⟩
  iapply (inv_of m ρ K ck); iexact H
theorem reached_at (ck : Dev nD × Option (Fin 32)) : records m ρ K ⊢ (reached EX (kcell ck) 0 : sProp 𝕄) := by
  unfold records
  iintro ⟨-, H⟩
  iapply (reached_of (F := F) ck); iexact H

theorem kcell_s : kcell (c, sIx d) = sendCell c d := congrArg (Prod.mk (c : Thread nD τ)) (csem_sIx d)
theorem kcell_r : kcell (c, rIx d) = recvCell c d := congrArg (Prod.mk (c : Thread nD τ)) (csem_rIx d)

theorem inv_bar : records m ρ K ⊢ (cellInv EX (rd m ρ) (K (c, none)) (barCell c) : sProp 𝕄) := inv_at m ρ K (c, none)
theorem inv_send : records m ρ K ⊢ (cellInv EX (rd m ρ) (K (c, sIx d)) (sendCell c d) : sProp 𝕄) := by
  rw [← kcell_s]; exact inv_at m ρ K (c, sIx d)
theorem inv_recv : records m ρ K ⊢ (cellInv EX (rd m ρ) (K (c, rIx d)) (recvCell c d) : sProp 𝕄) := by
  rw [← kcell_r]; exact inv_at m ρ K (c, rIx d)
theorem reached_bar : records m ρ K ⊢ (reached EX (barCell c) 0 : sProp 𝕄) := reached_at m ρ K (c, none)
theorem reached_send : records m ρ K ⊢ (reached EX (sendCell c d) 0 : sProp 𝕄) := by
  rw [← kcell_s]; exact reached_at m ρ K (c, sIx d)
theorem reached_recv : records m ρ K ⊢ (reached EX (recvCell c d) 0 : sProp 𝕄) := by
  rw [← kcell_r]; exact reached_at m ρ K (c, rIx d)

end Know

/-! ## The states -/

/-- `c` owes `O`, whatever it has waited for. -/
def owesAny (c : Dev nD) (O : CellTallies nD τ sig Unit) : sProp 𝕄 := iprop(∃ W, owes (c : Thread nD τ) O W)

/-- Before the raise of place `i`: for each place left, the token of the duty to pay and the slot to hand over. -/
def sigSt (c : Dev nD) (i : ℕ) : sProp 𝕄 :=
  iprop(owesAny c (Obar c i)
    ∗ bigSep (rest i) (fun d => dutyTok EX (barCell (fwd c d)) 0 (-d))
    ∗ bigSep (rest i) (fun d => iprop(∃ f, slotPts c (-d) f)))

/-- Before the send of place `i`: for each place left, its two tokens, a share of the candidates and the slot to fill; for
    each place sent, the credit of its send cell. -/
def sendSt (c : Dev nD) (i : ℕ) : sProp 𝕄 :=
  iprop(owesAny c (Orecv c i)
    ∗ bigSep (rest i) (fun d => dutyTok EX (sendCell c d) 0 0)
    ∗ bigSep (rest i) (fun d => dutyTok EX (recvCell (fwd c d) d) 0 0)
    ∗ bigSep (rest i) (candTok m ρ c)
    ∗ bigSep (rest i) (barPay c)
    ∗ bigSep (done i) (fun d => cred (tallyAt (sendCell c d) () N)))

/-- Before the wait for receive `i`: for each place left, its position and credit; for each place received, its slot filled
    and its counter back at zero. -/
def recvSt (c : Dev nD) (i : ℕ) : sProp 𝕄 :=
  iprop(owesAny c 0
    ∗ bigSep (rest i) (fun d => atPos EX (recvCell c d) 0 ∅ 0)
    ∗ bigSep (rest i) (fun d => cred (tallyAt (recvCell c d) () N))
    ∗ bigSep (done i) (fun d => slotPts c d (gath m ρ c))
    ∗ bigSep (done i) (fun d => semVal (recvCell c d) 0))

/-- Before the wait for send `i`: the same with the candidates' shares. -/
def sentSt (c : Dev nD) (i : ℕ) : sProp 𝕄 :=
  iprop(owesAny c 0
    ∗ bigSep (rest i) (fun d => atPos EX (sendCell c d) 0 ∅ 0)
    ∗ bigSep (rest i) (fun d => cred (tallyAt (sendCell c d) () N))
    ∗ bigSep (done i) (candTok m ρ c)
    ∗ bigSep (done i) (fun d => semVal (sendCell c d) 0))

omit [FloatOps F] in
/-- The next place is taken out of those left; -/
theorem rest_take {i : ℕ} (hi : i < 16) (Φ : Fin 16 → sProp 𝕄) : bigSep (rest i) Φ = iprop(Φ ⟨i, hi⟩ ∗ bigSep (rest (i + 1)) Φ) := by
  rw [show rest i = insert ⟨i, hi⟩ (rest (i + 1)) from rest_step ⟨i, hi⟩]
  exact bigSep_insert (not_mem_rest ⟨i, hi⟩)
omit [FloatOps F] in
/-- and put to those done. -/
theorem done_put {i : ℕ} (h0 : 0 < i) (hi : i < 16) (Φ : Fin 16 → sProp 𝕄) : bigSep (done (i + 1)) Φ = iprop(Φ ⟨i, hi⟩ ∗ bigSep (done i) Φ) := by
  rw [show done (i + 1) = insert ⟨i, hi⟩ (done i) from done_step ⟨i, hi⟩ (fun h => by have := congrArg Fin.val h; simp at this; omega)]
  exact bigSep_insert (not_mem_done ⟨i, hi⟩)

theorem dev_eq {c : Dev nD} {k : ℕ} {h : k < nD} (i : ℕ) (hi : i < 16) (e : k = (c.val + i) % 16) : (⟨k, h⟩ : Dev nD) = fwd c ⟨i, hi⟩ := Fin.ext e
/-- The devices the fifteen raises name, in order; -/
theorem raised (c : Dev nD) : ![k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c]
    = fun j : Fin 15 => (c.val + (1 + j.val)) % 16 := by revert c; decide +kernel
/-- and those the fifteen sends name. -/
theorem sentTo (c : Dev nD) : ![k0_dev16 c, k0_dev17 c, k0_dev18 c, k0_dev19 c, k0_dev20 c, k0_dev21 c, k0_dev22 c, k0_dev23 c, k0_dev24 c, k0_dev25 c, k0_dev26 c, k0_dev27 c, k0_dev28 c, k0_dev29 c, k0_dev30 c]
    = fun j : Fin 15 => (c.val + (1 + j.val)) % 16 := by revert c; decide +kernel
theorem ne_zero_of {i : ℕ} (h0 : 0 < i) (hi : i < 16) : (⟨i, hi⟩ : Fin 16) ≠ 0 := fun h => by have := congrArg Fin.val h; simp at this; omega

/-! ## The steps -/

section Steps
variable (K : Names) (c : Dev nD) (i : ℕ) (h0 : 0 < i) (hi : i < 16)

theorem slot_amount (d : Fin 16) (s : DmaSem sig) : (slot d : Memref sig .tc .vmem S8x512 .f32).view.amount (.dma s) = N := rfl

include h0 in
/-- The raise of the barrier of the device `i` places on. -/
theorem step_signal {α : Type} {Q : α → sProp 𝕄} {k : PUnit → Prog (TpuEff nD τ sig (Elt F) Λ₀ .tc) α} {n : Dev nD} (hn : n = fwd c ⟨i, hi⟩) {k' : ℕ} (hk : 1 = k') :
    records m ρ K ⊢ iprop(sigSt (F := F) c i -∗ (sigSt c (i + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  subst hn hk
  unfold sigSt owesAny
  rw [rest_take hi, rest_take hi]
  iintro #HR ⟨⟨%W, HO⟩, ⟨Ht, Hts⟩, ⟨Hs, Hss⟩⟩ Hk
  iapply (Rounds.wp_signal 𝒱₀ EX (rd m ρ) (c : Thread nD τ) none (dst := (fwd c ⟨i, hi⟩ : Thread nD τ)) (κ := K (fwd c ⟨i, hi⟩, none))
      (d := -⟨i, hi⟩) (by rw [duties_bar]; exact mem_rest_one.mpr (neg_ne_zero (ne_zero_of h0 hi))) (amount_bar m ρ (fwd c ⟨i, hi⟩) _) ()
      (Obar c (i + 1)) (Obar_step c ⟨i, hi⟩)) $$ [HO Ht Hs]
  · isplitr; · iapply (inv_bar m ρ K (fwd c ⟨i, hi⟩)); iexact HR
    isplitl [HO]; · iexact HO
    isplitl [Ht]; · iexact Ht
    isplitl [Hs]
    · rw [payload_bar]; unfold barPay; rw [fwd_fwd_neg]; iexact Hs
    iapply (reached_bar m ρ K (fwd c ⟨i, hi⟩)); iexact HR
  iintro HO
  iapply Hk
  isplitl [HO]; · iexists W; iexact HO
  isplitl [Hts] <;> iassumption

include h0 in
/-- The send to the device `i` places on, into its slot `i`. -/
theorem step_send {α : Type} {Q : α → sProp 𝕄} {k : PUnit → Prog (TpuEff nD τ sig (Elt F) Λ₀ .tc) α} {n : Dev nD} (hn : n = fwd c ⟨i, hi⟩) {v : Memref sig .tc .vmem S8x512 .f32} (hv : v = slot ⟨i, hi⟩)
    {s₁ s₂ : DmaSem sig} (hs₁ : s₁ = sendS ⟨i, hi⟩) (hs₂ : s₂ = recvS ⟨i, hi⟩)
    {hsc : (v : Memref sig (Dev.tc n : Thread nD τ).2.kind .vmem S8x512 .f32).view.ref.isScScratch = false}
    {hsrc : (cM : Memref sig .tc .vmem S8x512 .f32).view.WordExact} {hdst : v.view.WordExact}
    {hsem : DmaTarget.Typed .vmem (.dma s₂) (.remote (Dev.tc n : Thread nD τ) v (.dma s₁) hsc)} :
    records m ρ K ⊢ iprop(sendSt m ρ c i -∗ (sendSt m ρ c (i + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma cM (.remote (Dev.tc n : Thread nD τ) v (.dma s₁) hsc) (.dma s₂) hsrc hdst hsem) k) Q) := by
  subst hn hv hs₁ hs₂
  unfold sendSt owesAny
  rw [rest_take hi, rest_take hi, rest_take hi, rest_take hi, done_put h0 hi]
  unfold barPay candTok slotPts
  iintro #HR ⟨⟨%W, HO⟩, ⟨Hts, Htss⟩, ⟨Htr, Htrs⟩, ⟨Hc, Hcs⟩, ⟨⟨%fd, Hd⟩, Hds⟩, Hcr⟩ Hk
  iapply (Rounds.wp_send_pointsTo 𝒱₀ EX (rd m ρ) (c : Thread nD τ) none (κ₁ := K (c, sIx ⟨i, hi⟩)) (κ₂ := K (fwd c ⟨i, hi⟩, rIx ⟨i, hi⟩))
    (r₁ := 0) (r₂ := 0) (d₁ := 0) (d₂ := 0) (fs := cand m ρ c) (fd := fd) (q := Transfers.shareTok fullShare 16 ⟨i, hi⟩)
    (by rw [duties_send m ρ c _ (ne_zero_of h0 hi)]; exact Finset.mem_singleton_self _)
    (by rw [duties_recv m ρ _ _ (ne_zero_of h0 hi)]; exact Finset.mem_singleton_self _)
    () () N (slot_amount _ _) (amount_send m ρ c _ 0) (amount_recv m ρ (fwd c ⟨i, hi⟩) _ 0) (Orecv c (i + 1)) (Orecv_step c ⟨i, hi⟩) (W := W)
    (by rw [payload_send]; unfold candTok; rw [View.set_whole])
    (by rw [payload_recv]; exact Entails.of_eq (slot_landed m ρ (fwd c ⟨i, hi⟩) ⟨i, hi⟩ fd _ (by rw [frm_fwd]; exact View.read_whole _ _))))
    $$ [HO Hts Htr Hc Hd]
  · isplitr; · iapply (inv_send m ρ K c ⟨i, hi⟩); iexact HR
    isplitr; · iapply (inv_recv m ρ K (fwd c ⟨i, hi⟩) ⟨i, hi⟩); iexact HR
    isplitl [Hc]; · rw [View.set_whole]; iexact Hc
    isplitl [Hd]; · iexact Hd
    isplitl [HO]; · iexact HO
    isplitl [Hts]; · iexact Hts
    isplitr; · iapply (reached_send m ρ K c ⟨i, hi⟩); iexact HR
    isplitl [Htr]; · iexact Htr
    iapply (reached_recv m ρ K (fwd c ⟨i, hi⟩) ⟨i, hi⟩); iexact HR
  iintro ⟨Hcd, HO⟩
  iapply Hk
  isplitl [HO]; · iexists W; iexact HO
  isplitl [Htss]; · iexact Htss
  isplitl [Htrs]; · iexact Htrs
  isplitl [Hcs]; · iexact Hcs
  isplitl [Hds]; · iexact Hds
  isplitl [Hcd] <;> iassumption

include h0 in
/-- The wait for the receive of place `i`: the slot comes filled, and the cell closes. -/
theorem step_recv {α : Type} {Q : α → sProp 𝕄} {k : PUnit → Prog (TpuEff nD τ sig (Elt F) Λ₀ .tc) α} {v : Memref sig .tc .vmem S8x512 .f32} (hv : v = slot ⟨i, hi⟩) {s₂ : DmaSem sig} (hs₂ : s₂ = recvS ⟨i, hi⟩)
    {hsrc : (cM : Memref sig .tc .vmem S8x512 .f32).view.WordExact} {hdst : v.view.WordExact} :
    records m ρ K ⊢ iprop(recvSt m ρ c i -∗ (recvSt m ρ c (i + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 s₂ cM v hsrc hdst) k) Q) := by
  subst hv hs₂
  unfold recvSt owesAny
  rw [rest_take hi, rest_take hi, done_put h0 hi, done_put h0 hi]
  iintro #HR ⟨⟨%W, HO⟩, ⟨Ha, Has⟩, ⟨Hc, Hcs⟩, Hps, Hzs⟩ Hk
  iapply (Rounds.wp_wait_rest_token 𝒱₀ EX (rd m ρ) (c : Thread nD τ) none (κ := K (c, rIx ⟨i, hi⟩))
      (wpE_waitDma2_eq 𝒱₀ (c : Thread nD τ) none Set.univ) (Set.mem_univ _) () (O := 0) (W := W) (R := 0) (m := 0) (T := ∅)
      (by rw [Nat.zero_add, expect_recv m ρ c _ (ne_zero_of h0 hi)])) $$ [Hc HO Ha]
  · isplitr; · iapply (inv_recv m ρ K c ⟨i, hi⟩); iexact HR
    isplitl [Hc]; · iexact Hc
    isplitl [HO]; · iexact HO
    isplitr; · rw [MayWait_zero]; iempintro
    iexact Ha
  iintro ⟨HO, Ha, -, Hpay⟩
  ihave Hp := (Entails.of_eq (rest_recv m ρ c _ (ne_zero_of h0 hi))) $$ Hpay
  imod (Rounds.cell_close EX (rd m ρ) (Set.mem_univ (K (c, rIx ⟨i, hi⟩))) (fun h => h) (R := 0 + 1) (duties_later m ρ (recvCell c ⟨i, hi⟩))) $$ [Ha] with Hz
  · isplitr; · iapply (inv_recv m ρ K c ⟨i, hi⟩); iexact HR
    iexact Ha
  iapply Hk
  isplitl [HO]; · iexists _; iexact HO
  isplitl [Has]; · iexact Has
  isplitl [Hcs]; · iexact Hcs
  isplitl [Hp Hps]
  · isplitl [Hp] <;> iassumption
  isplitl [Hz] <;> iassumption

include h0 in
/-- The wait for the send of place `i`: the share of the candidates comes back, and the cell closes. -/
theorem step_sent {α : Type} {Q : α → sProp 𝕄} {k : PUnit → Prog (TpuEff nD τ sig (Elt F) Λ₀ .tc) α} {v : Memref sig .tc .vmem S8x512 .f32} (hv : v = slot ⟨i, hi⟩) {s₁ : DmaSem sig} (hs₁ : s₁ = sendS ⟨i, hi⟩)
    {hsrc : v.view.WordExact} {hdst : (cM : Memref sig .tc .vmem S8x512 .f32).view.WordExact} :
    records m ρ K ⊢ iprop(sentSt m ρ c i -∗ (sentSt m ρ c (i + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 s₁ v cM hsrc hdst) k) Q) := by
  subst hv hs₁
  unfold sentSt owesAny
  rw [rest_take hi, rest_take hi, done_put h0 hi, done_put h0 hi]
  iintro #HR ⟨⟨%W, HO⟩, ⟨Ha, Has⟩, ⟨Hc, Hcs⟩, Hps, Hzs⟩ Hk
  iapply (Rounds.wp_wait_rest_token 𝒱₀ EX (rd m ρ) (c : Thread nD τ) none (κ := K (c, sIx ⟨i, hi⟩))
      (wpE_waitDma2_eq 𝒱₀ (c : Thread nD τ) none Set.univ) (Set.mem_univ _) () (O := 0) (W := W) (R := 0) (m := 0) (T := ∅)
      (by rw [Nat.zero_add, expect_send m ρ c _ (ne_zero_of h0 hi)])) $$ [Hc HO Ha]
  · isplitr; · iapply (inv_send m ρ K c ⟨i, hi⟩); iexact HR
    isplitl [Hc]; · iexact Hc
    isplitl [HO]; · iexact HO
    isplitr; · rw [MayWait_zero]; iempintro
    iexact Ha
  iintro ⟨HO, Ha, -, Hpay⟩
  ihave Hp := (Entails.of_eq (rest_send m ρ c _ (ne_zero_of h0 hi))) $$ Hpay
  imod (Rounds.cell_close EX (rd m ρ) (Set.mem_univ (K (c, sIx ⟨i, hi⟩))) (fun h => h) (R := 0 + 1) (duties_later m ρ (sendCell c ⟨i, hi⟩))) $$ [Ha] with Hz
  · isplitr; · iapply (inv_send m ρ K c ⟨i, hi⟩); iexact HR
    iexact Ha
  iapply Hk
  isplitl [HO]; · iexists _; iexact HO
  isplitl [Has]; · iexact Has
  isplitl [Hcs]; · iexact Hcs
  isplitl [Hp Hps]
  · isplitl [Hp] <;> iassumption
  isplitl [Hz] <;> iassumption

end Steps

end Cert.TopK

end
-- ==== Proof.Body.lean ====
/-
# The body

The kernel's own code, executed one rule per effect in program order: from the launch's ghost state and the device's block
of the argument, to the output block the gathered candidates give, with the candidates' buffers and every semaphore handed back.
-/
module

public import proofs.«01_k».proof.Proof.Steps
public import Idealize.ShloMosaic.Lib.Pipeline.Value

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device computes -/

/-- The block of the result that a full gather buffer yields. -/
def outOf (v : Vec F S16x8x512 .f32) : Vec F S512x16 .f32 :=
  k0_pay3 (k0_pay14 v) (k0_pay15 v) (k0_pay16 v) (k0_pay18 v (k0_pay17 v)) (k0_pay19 v (k0_pay17 v)) (k0_pay20 v (k0_pay17 v))
    (k0_pay21 v (k0_pay17 v)) (k0_pay22 v (k0_pay17 v)) (k0_pay23 v (k0_pay17 v)) (k0_pay25 v (k0_pay24 v (k0_pay17 v)))
    (k0_pay26 v (k0_pay24 v (k0_pay17 v))) (k0_pay27 v (k0_pay24 v (k0_pay17 v))) (k0_pay28 v (k0_pay24 v (k0_pay17 v)))
    (k0_pay29 v (k0_pay24 v (k0_pay17 v))) (k0_pay30 v (k0_pay24 v (k0_pay17 v)))
    (k0_pay2 v (k0_pay1 v (k0_pay31 v (k0_pay24 v (k0_pay17 v)))))

/-- Device `c`'s block of the result. -/
def outAt (c : Dev nD) : (cc0_stg1_0 : Ref sig .tc).ty.Contents (Elt F) := outOf (gath m ρ c)

/-! ## The launch's ghost state and the pipeline's data -/

/-- What stays with device `c`: its positions, and the tokens of the duties it pays. -/
def linear (c : Dev nD) : sProp 𝕄 :=
  iprop((atPos EX (barCell c) 0 ∅ 0
      ∗ (bigSep Finset.univ fun d => atPos EX (sendCell c d) 0 ∅ 0)
      ∗ bigSep Finset.univ fun d => atPos EX (recvCell c d) 0 ∅ 0)
    ∗ (bigSep (rest 1) fun d => dutyTok EX (barCell (fwd c d)) 0 (-d))
    ∗ (bigSep (rest 1) fun d => dutyTok EX (sendCell c d) 0 0)
    ∗ bigSep (rest 1) fun d => dutyTok EX (recvCell (fwd c d) d) 0 0)

/-- The credit a device is dealt at launch: fifteen raises of its barrier, and each slot's transfer. -/
def credits (c : Dev nD) : sProp 𝕄 :=
  iprop(cred (tallyAt (barCell c) () 15) ∗ bigSep (rest 1) fun d => cred (tallyAt (recvCell c d) () N))

def start (c : Dev nD) : sProp 𝕄 := iprop((∃ K, records m ρ K ∗ linear c) ∗ credits c ∗ levAts L lv)

def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)
def Φ₁ (c : Dev nD) : sProp 𝕄 :=
  iprop(((∃ f, ((c : Thread nD τ).loc cc0_scratch0) ↦{fullShare} f) ∗ ∃ f, ((c : Thread nD τ).loc cc0_scratch1) ↦{fullShare} f)
    ∗ (bigSep Finset.univ fun d => semVal (sendCell c d) 0) ∗ (bigSep Finset.univ fun d => semVal (recvCell c d) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => Obar c 1
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The loads and stores -/

abbrev rX : Rect S512x4096 := Rect.unit (s := S512x4096) ![0, 0] S512x4096.size inb_S512x4096_S512x4096_0_0
abbrev rO : Rect S512x16 := Rect.unit (s := S512x16) ![0, 0] S512x16.size inb_S512x16_S512x16_0_0
abbrev rC : Rect S8x512 := Rect.unit (s := S8x512) ![0, 0] S8x512.size inb_S8x512_S8x512_0_0
abbrev rG : Rect S16x8x512 := Rect.unit (s := S16x8x512) ![0, 0, 0] S16x8x512.size inb_S16x8x512_S16x8x512_0_0_0
abbrev rG0 : Rect S16x8x512 := Rect.unit (s := S16x8x512) ![0, 0, 0] S1x8x512.size inb_S16x8x512_S1x8x512_0_0_0

theorem hz2 : (![0, 0] : Fin 2 → Nat) = fun _ => 0 := funext fun a => by fin_cases a <;> rfl
theorem hz3 : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S512x4096 .f32).view.readAt (Elt F) rX.toLoadRect f = f :=
  Memref.readAt_unit_zero (Elt F) cc0_stg0_0 hz2 _ f
omit [FloatOps F] in
theorem read_g (f : (cc0_scratch1 : Ref sig .tc).ty.Contents (Elt F)) : (gM : Memref sig .tc .vmem S16x8x512 .f32).view.readAt (Elt F) rG.toLoadRect f = f :=
  Memref.readAt_unit_zero (Elt F) cc0_scratch1 hz3 _ f
omit [FloatOps F] in
theorem write_out (f w : (cc0_stg1_0 : Ref sig .tc).ty.Contents (Elt F)) :
    ((oM : Memref sig .tc .vmem S512x16 .f32).access rO : View sig .tc _ _ _).write (Elt F) f w Finset.univ = w :=
  Memref.write_access_unit_zero_univ (Elt F) cc0_stg1_0 hz2 _ f w
omit [FloatOps F] in
theorem write_whole (f w : (cc0_scratch0 : Ref sig .tc).ty.Contents (Elt F)) :
    ((cM : Memref sig .tc .vmem S8x512 .f32).access rC : View sig .tc _ _ _).write (Elt F) f w Finset.univ = w :=
  Memref.write_access_unit_zero_univ (Elt F) cc0_scratch0 hz2 _ f w
theorem write_cand (c : Dev nD) (f : (cc0_scratch0 : Ref sig .tc).ty.Contents (Elt F)) :
    ((cM : Memref sig .tc .vmem S8x512 .f32).access rC : View sig .tc _ _ _).write (Elt F) f
      (k0_pay12 (k0_pay4 (xstg m ρ c)) (k0_pay5 (xstg m ρ c)) (k0_pay6 (xstg m ρ c)) (k0_pay7 (xstg m ρ c)) (k0_pay8 (xstg m ρ c))
        (k0_pay9 (xstg m ρ c)) (k0_pay10 (xstg m ρ c))) Finset.univ = cand m ρ c := write_whole f _

theorem zero_set : ((gM : Memref sig .tc .vmem S16x8x512 .f32).access rG0).set = (slot 0 : Memref sig .tc .vmem S8x512 .f32).view.set := by
  rw [slot_set]; exact View.set_slice_whole _ _

theorem zero_read : (gM : Memref sig .tc .vmem S16x8x512 .f32).view.setOn rG0.toLoadRect.set ⊆ (slot 0 : Memref sig .tc .vmem S8x512 .f32).view.set := by
  have h : ((gM : Memref sig .tc .vmem S16x8x512 .f32).access rG0).set = (gM : Memref sig .tc .vmem S16x8x512 .f32).view.setOn rG0.toLoadRect.set := View.set_slice _ _
  rw [← zero_set, h]
theorem zero_write : ((gM : Memref sig .tc .vmem S16x8x512 .f32).access rG0).setOn Finset.univ ⊆ (slot 0 : Memref sig .tc .vmem S8x512 .f32).view.set := by
  rw [← zero_set, View.setOn_univ]

/-- A device's own candidates, stored as a block of one place over slot 0 of any contents, read there as the gather buffer at
    the end. -/
theorem own_landed (c : Dev nD) (fd : Buf (Elt F) ((c : Thread nD τ).loc cc0_scratch1)) (w : S1x8x512.Idx → Elt F .f32)
    (hw : ∀ z : S8x512.Idx, w (Fin.cons ⟨0, Nat.one_pos⟩ z) = cand m ρ c z) :
    (((c : Thread nD τ).loc cc0_scratch1) ↦[(slot 0 : Memref sig .tc .vmem S8x512 .f32).view.set]{fullShare}
        (((gM : Memref sig .tc .vmem S16x8x512 .f32).access rG0).write (Elt F) fd w Finset.univ) : sProp 𝕄) = slotPts c 0 (gath m ρ c) := by
  unfold slotPts
  refine pointsTo_congr fun i hi => ?_
  obtain ⟨z, -, rfl⟩ := Finset.mem_map.mp hi
  rw [slot_emb]
  refine (View.write_emb_of_mem (v := (gM : Memref sig .tc .vmem S16x8x512 .f32).access rG0) (x := Fin.cons ⟨0, Nat.one_pos⟩ z) _ _ (Finset.mem_univ _)).trans ?_
  unfold gath
  rw [slot_emb_zero, slot_emb_tail, frm_zero]
  exact hw z

theorem own_value (x : Vec F S512x4096 .f32) (z : S8x512.Idx) :
    k0_pay13 (k0_pay4 x) (k0_pay5 x) (k0_pay6 x) (k0_pay7 x) (k0_pay8 x) (k0_pay9 x) (k0_pay10 x) (Fin.cons ⟨0, Nat.one_pos⟩ z) = candOf x z := by
  unfold k0_pay13 candOf k0_pay12
  rw [shapeCast_self]
  refine (shapeCast_addUnit_apply ![8, 512] _ shapeCasts_S8x512_S1x8x512 _).trans ?_
  exact congrArg _ (funext fun a => rfl)

/-! ## The body -/

section Body
variable (K : Names)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((records m ρ K ∗ linear c) ∗ credits c ∗ levAts L lv
      ∗ (∃ f, ((c : Thread nD τ).loc cc0_scratch0) ↦{fullShare} f) ∗ ∃ f, ((c : Thread nD τ).loc cc0_scratch1) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

omit [FloatOps F] in
/-- A family over all the places is its member at place 0 and the rest. -/
theorem split_zero (Φ : Fin 16 → sProp 𝕄) : bigSep Finset.univ Φ = iprop(Φ 0 ∗ bigSep (rest 1) Φ) := by
  rw [univ_eq]; exact bigSep_insert zero_not_mem

omit [FloatOps F] in
theorem slot_any (c : Dev nD) (d : Fin 16) (f : Buf (Elt F) ((c : Thread nD τ).loc cc0_scratch1)) :
    (slotPts c d f : sProp 𝕄) ⊢ iprop(∃ f, slotPts c d f) := by iintro H; iexists f; iexact H

/-- Turning the ring round is a bijection of the places. -/
def negs : Fin 16 ≃ Fin 16 := ⟨fun d => -d, fun d => -d, by decide +kernel, by decide +kernel⟩

omit [FloatOps F] in
/-- The gather buffer held at anything is its slot 0, and the others listed by what is handed over at each place. -/
theorem slots_out (c : Dev nD) (f : Buf (Elt F) ((c : Thread nD τ).loc cc0_scratch1)) :
    (((c : Thread nD τ).loc cc0_scratch1) ↦{fullShare} f : sProp 𝕄)
      ⊢ iprop(slotPts c 0 f ∗ bigSep (rest 1) fun d => iprop(∃ f, slotPts c (-d) f)) := by
  rw [gather_slots, bigSep_univ_equiv negs, split_zero]
  refine BI.sep_mono (Entails.of_eq (congrArg (fun d => slotPts c d f) (show negs 0 = 0 by decide +kernel))) (bigSep_mono fun d _ => slot_any c (-d) f)

set_option maxHeartbeats 4000000 in
set_option maxRecDepth 20000 in
/-- The body, executed from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  simp only [semSignalWord, semWaitWord, Prog.lift, Prog.bind_op, Prog.bind_ret, Prog.pure_eq_ret, wp_deviceId]
  unfold bodyPre linear credits
  iintro ⟨⟨⟨⟨#HR, ⟨HaB, HaS, HaV⟩, HtB, HtS, HtV⟩, ⟨HcB, HcV⟩, #Hlev, ⟨%fc, Hcand⟩, ⟨%fg, Hg⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = Obar c 1 from rfl]
  ihave Hg' := (slots_out c fg) $$ Hg
  icases Hg' with ⟨Hg0, Hgs⟩
  -- the fifteen raises
  ihave Hsig := (show iprop((∃ W, owes (c : Thread nD τ) (Obar c 1) W) ∗ (bigSep (rest 1) fun d => dutyTok EX (barCell (fwd c d)) 0 (-d))
      ∗ bigSep (rest 1) fun d => iprop(∃ f, slotPts c (-d) f)) ⊢ (sigSt c 1 : sProp 𝕄) from BI.Entails.refl _) $$ [HO HtB Hgs]
  · isplitl [HO]; · iexists W; iexact HO
    isplitl [HtB] <;> iassumption
  iapply (step_signal m ρ K c 1 (by decide) (by decide) (dev_eq (k := k0_dev1 c) 1 (by decide) (congrFun (raised c) 0)) rfl) $$ HR Hsig; iintro Hsig
  iapply (step_signal m ρ K c 2 (by decide) (by decide) (dev_eq (k := k0_dev2 c) 2 (by decide) (congrFun (raised c) 1)) rfl) $$ HR Hsig; iintro Hsig
  iapply (step_signal m ρ K c 3 (by decide) (by decide) (dev_eq (k := k0_dev3 c) 3 (by decide) (congrFun (raised c) 2)) rfl) $$ HR Hsig; iintro Hsig
  iapply (step_signal m ρ K c 4 (by decide) (by decide) (dev_eq (k := k0_dev4 c) 4 (by decide) (congrFun (raised c) 3)) rfl) $$ HR Hsig; iintro Hsig
  iapply (step_signal m ρ K c 5 (by decide) (by decide) (dev_eq (k := k0_dev5 c) 5 (by decide) (congrFun (raised c) 4)) rfl) $$ HR Hsig; iintro Hsig
  iapply (step_signal m ρ K c 6 (by decide) (by decide) (dev_eq (k := k0_dev6 c) 6 (by decide) (congrFun (raised c) 5)) rfl) $$ HR Hsig; iintro Hsig
  iapply (step_signal m ρ K c 7 (by decide) (by decide) (dev_eq (k := k0_dev7 c) 7 (by decide) (congrFun (raised c) 6)) rfl) $$ HR Hsig; iintro Hsig
  iapply (step_signal m ρ K c 8 (by decide) (by decide) (dev_eq (k := k0_dev8 c) 8 (by decide) (congrFun (raised c) 7)) rfl) $$ HR Hsig; iintro Hsig
  iapply (step_signal m ρ K c 9 (by decide) (by decide) (dev_eq (k := k0_dev9 c) 9 (by decide) (congrFun (raised c) 8)) rfl) $$ HR Hsig; iintro Hsig
  iapply (step_signal m ρ K c 10 (by decide) (by decide) (dev_eq (k := k0_dev10 c) 10 (by decide) (congrFun (raised c) 9)) rfl) $$ HR Hsig; iintro Hsig
  iapply (step_signal m ρ K c 11 (by decide) (by decide) (dev_eq (k := k0_dev11 c) 11 (by decide) (congrFun (raised c) 10)) rfl) $$ HR Hsig; iintro Hsig
  iapply (step_signal m ρ K c 12 (by decide) (by decide) (dev_eq (k := k0_dev12 c) 12 (by decide) (congrFun (raised c) 11)) rfl) $$ HR Hsig; iintro Hsig
  iapply (step_signal m ρ K c 13 (by decide) (by decide) (dev_eq (k := k0_dev13 c) 13 (by decide) (congrFun (raised c) 12)) rfl) $$ HR Hsig; iintro Hsig
  iapply (step_signal m ρ K c 14 (by decide) (by decide) (dev_eq (k := k0_dev14 c) 14 (by decide) (congrFun (raised c) 13)) rfl) $$ HR Hsig; iintro Hsig
  iapply (step_signal m ρ K c 15 (by decide) (by decide) (dev_eq (k := k0_dev15 c) 15 (by decide) (congrFun (raised c) 14)) rfl) $$ HR Hsig; iintro Hsig
  unfold sigSt owesAny
  icases Hsig with ⟨⟨%W1, HO⟩, -, -⟩
  rw [Obar_end]
  -- the candidates
  iapply (wp_load 𝒱₀ (c : Thread nD τ) none Set.univ (m := xM) (Finset.subset_univ _)) $$ Hx; iintro Hx
  rw [read_x]
  iapply (wp_load 𝒱₀ (c : Thread nD τ) none Set.univ (m := cM) (Finset.subset_univ _)) $$ Hcand; iintro Hcand
  iapply (wp_store 𝒱₀ (c : Thread nD τ) none Set.univ (m := cM) (r := rC) (Mk := Finset.univ) (Finset.subset_univ _)) $$ Hcand; iintro Hcand
  rw [write_cand]
  ihave Hcand := (show (((cM : Memref sig .tc .vmem S8x512 .f32).access rC).loc (c : Thread nD τ) ↦{fullShare} cand m ρ c) ⊢ (((c : Thread nD τ).loc cc0_scratch0) ↦{fullShare} cand m ρ c : sProp 𝕄) from BI.Entails.refl _) $$ Hcand
  unfold slotPts
  iapply (wp_load 𝒱₀ (c : Thread nD τ) none Set.univ (m := gM) zero_read) $$ Hg0; iintro Hg0
  iapply (wp_store 𝒱₀ (c : Thread nD τ) none Set.univ (m := gM) (r := rG0) (Mk := Finset.univ) zero_write) $$ Hg0; iintro Hg0
  ihave Hown := (Entails.of_eq (own_landed m ρ c _ _ (fun z => own_value (xstg m ρ c) z))) $$ Hg0
  -- the barrier
  iapply (Rounds.wp_wait_rest_token 𝒱₀ EX (rd m ρ) (c : Thread nD τ) none (κ := K (c, none))
      (wpE_semWait_eq 𝒱₀ (c : Thread nD τ) none Set.univ) (Set.mem_univ _) () (O := Orecv c 1) (W := W1) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar (F := F) c); iexact Hlev
    iexact HaB
  iintro ⟨HO, HaB, -, Hpay⟩
  ihave Hp := (Entails.of_eq (rest_bar m ρ c)) $$ Hpay
  imod (Rounds.cell_close EX (rd m ρ) (Set.mem_univ (K (c, none))) (fun h => h) (R := 0 + 1) (duties_later m ρ (barCell c))) $$ [HaB] with HzB
  · isplitr; · iapply (inv_bar m ρ K c); iexact HR
    iexact HaB
  -- the fifteen sends, each lent a share of the candidates
  ihave Hct := (Transfers.pointsTo_toks_split fullShare 16) $$ Hcand
  icases Hct with ⟨Hrest, Hct⟩
  ihave Hct' := (show (bigSep Finset.univ fun i : Fin 16 => (((c : Thread nD τ).loc cc0_scratch0) ↦{Transfers.shareTok fullShare 16 i} cand m ρ c : sProp 𝕄)) ⊢ _ from Entails.of_eq (split_zero (F := F) (candTok m ρ c))) $$ Hct
  icases Hct' with ⟨Hct0, Hcts⟩
  ihave Hsend := (show iprop((∃ W, owes (c : Thread nD τ) (Orecv c 1) W) ∗ (bigSep (rest 1) fun d => dutyTok EX (sendCell c d) 0 0)
      ∗ (bigSep (rest 1) fun d => dutyTok EX (recvCell (fwd c d) d) 0 0) ∗ bigSep (rest 1) (candTok m ρ c) ∗ bigSep (rest 1) (barPay c)) ⊢ (sendSt m ρ c 1 : sProp 𝕄) from by
        unfold sendSt owesAny; rw [done_one, bigSep_empty]; iintro ⟨H1, H2, H3, H4, H5⟩
        isplitl [H1]; · iexact H1
        isplitl [H2]; · iexact H2
        isplitl [H3]; · iexact H3
        isplitl [H4]; · iexact H4
        isplitl [H5]; · iexact H5
        iempintro) $$ [HO HtS HtV Hcts Hp]
  · isplitl [HO]; · iexists _; iexact HO
    isplitl [HtS]; · iexact HtS
    isplitl [HtV]; · iexact HtV
    isplitl [Hcts] <;> iassumption
  iapply (step_send m ρ K c 1 (by decide) (by decide) (dev_eq (k := k0_dev16 c) 1 (by decide) (congrFun (sentTo c) 0)) rfl rfl rfl) $$ HR Hsend; iintro Hsend
  iapply (step_send m ρ K c 2 (by decide) (by decide) (dev_eq (k := k0_dev17 c) 2 (by decide) (congrFun (sentTo c) 1)) rfl rfl rfl) $$ HR Hsend; iintro Hsend
  iapply (step_send m ρ K c 3 (by decide) (by decide) (dev_eq (k := k0_dev18 c) 3 (by decide) (congrFun (sentTo c) 2)) rfl rfl rfl) $$ HR Hsend; iintro Hsend
  iapply (step_send m ρ K c 4 (by decide) (by decide) (dev_eq (k := k0_dev19 c) 4 (by decide) (congrFun (sentTo c) 3)) rfl rfl rfl) $$ HR Hsend; iintro Hsend
  iapply (step_send m ρ K c 5 (by decide) (by decide) (dev_eq (k := k0_dev20 c) 5 (by decide) (congrFun (sentTo c) 4)) rfl rfl rfl) $$ HR Hsend; iintro Hsend
  iapply (step_send m ρ K c 6 (by decide) (by decide) (dev_eq (k := k0_dev21 c) 6 (by decide) (congrFun (sentTo c) 5)) rfl rfl rfl) $$ HR Hsend; iintro Hsend
  iapply (step_send m ρ K c 7 (by decide) (by decide) (dev_eq (k := k0_dev22 c) 7 (by decide) (congrFun (sentTo c) 6)) rfl rfl rfl) $$ HR Hsend; iintro Hsend
  iapply (step_send m ρ K c 8 (by decide) (by decide) (dev_eq (k := k0_dev23 c) 8 (by decide) (congrFun (sentTo c) 7)) rfl rfl rfl) $$ HR Hsend; iintro Hsend
  iapply (step_send m ρ K c 9 (by decide) (by decide) (dev_eq (k := k0_dev24 c) 9 (by decide) (congrFun (sentTo c) 8)) rfl rfl rfl) $$ HR Hsend; iintro Hsend
  iapply (step_send m ρ K c 10 (by decide) (by decide) (dev_eq (k := k0_dev25 c) 10 (by decide) (congrFun (sentTo c) 9)) rfl rfl rfl) $$ HR Hsend; iintro Hsend
  iapply (step_send m ρ K c 11 (by decide) (by decide) (dev_eq (k := k0_dev26 c) 11 (by decide) (congrFun (sentTo c) 10)) rfl rfl rfl) $$ HR Hsend; iintro Hsend
  iapply (step_send m ρ K c 12 (by decide) (by decide) (dev_eq (k := k0_dev27 c) 12 (by decide) (congrFun (sentTo c) 11)) rfl rfl rfl) $$ HR Hsend; iintro Hsend
  iapply (step_send m ρ K c 13 (by decide) (by decide) (dev_eq (k := k0_dev28 c) 13 (by decide) (congrFun (sentTo c) 12)) rfl rfl rfl) $$ HR Hsend; iintro Hsend
  iapply (step_send m ρ K c 14 (by decide) (by decide) (dev_eq (k := k0_dev29 c) 14 (by decide) (congrFun (sentTo c) 13)) rfl rfl rfl) $$ HR Hsend; iintro Hsend
  iapply (step_send m ρ K c 15 (by decide) (by decide) (dev_eq (k := k0_dev30 c) 15 (by decide) (congrFun (sentTo c) 14)) rfl rfl rfl) $$ HR Hsend; iintro Hsend
  unfold sendSt owesAny
  icases Hsend with ⟨⟨%W2, HO⟩, -, -, -, -, HcS⟩
  rw [Orecv_end, done_end]
  -- the fifteen receives
  ihave HaV' := (Entails.of_eq (split_zero (F := F) fun d => atPos EX (recvCell c d) 0 ∅ 0)) $$ HaV
  icases HaV' with ⟨HaV0, HaV⟩
  ihave HaS' := (Entails.of_eq (split_zero (F := F) fun d => atPos EX (sendCell c d) 0 ∅ 0)) $$ HaS
  icases HaS' with ⟨HaS0, HaS⟩
  ihave Hrecv := (show iprop((∃ W, owes (c : Thread nD τ) 0 W) ∗ (bigSep (rest 1) fun d => atPos EX (recvCell c d) 0 ∅ 0)
      ∗ (bigSep (rest 1) fun d => cred (tallyAt (recvCell c d) () N))) ⊢ (recvSt m ρ c 1 : sProp 𝕄) from by
        unfold recvSt owesAny; rw [done_one, bigSep_empty, bigSep_empty]; iintro ⟨H1, H2, H3⟩
        isplitl [H1]; · iexact H1
        isplitl [H2]; · iexact H2
        isplitl [H3]; · iexact H3
        isplitr <;> iempintro) $$ [HO HaV HcV]
  · isplitl [HO]; · iexists _; iexact HO
    isplitl [HaV] <;> iassumption
  iapply (step_recv m ρ K c 1 (by decide) (by decide) rfl rfl) $$ HR Hrecv; iintro Hrecv
  iapply (step_recv m ρ K c 2 (by decide) (by decide) rfl rfl) $$ HR Hrecv; iintro Hrecv
  iapply (step_recv m ρ K c 3 (by decide) (by decide) rfl rfl) $$ HR Hrecv; iintro Hrecv
  iapply (step_recv m ρ K c 4 (by decide) (by decide) rfl rfl) $$ HR Hrecv; iintro Hrecv
  iapply (step_recv m ρ K c 5 (by decide) (by decide) rfl rfl) $$ HR Hrecv; iintro Hrecv
  iapply (step_recv m ρ K c 6 (by decide) (by decide) rfl rfl) $$ HR Hrecv; iintro Hrecv
  iapply (step_recv m ρ K c 7 (by decide) (by decide) rfl rfl) $$ HR Hrecv; iintro Hrecv
  iapply (step_recv m ρ K c 8 (by decide) (by decide) rfl rfl) $$ HR Hrecv; iintro Hrecv
  iapply (step_recv m ρ K c 9 (by decide) (by decide) rfl rfl) $$ HR Hrecv; iintro Hrecv
  iapply (step_recv m ρ K c 10 (by decide) (by decide) rfl rfl) $$ HR Hrecv; iintro Hrecv
  iapply (step_recv m ρ K c 11 (by decide) (by decide) rfl rfl) $$ HR Hrecv; iintro Hrecv
  iapply (step_recv m ρ K c 12 (by decide) (by decide) rfl rfl) $$ HR Hrecv; iintro Hrecv
  iapply (step_recv m ρ K c 13 (by decide) (by decide) rfl rfl) $$ HR Hrecv; iintro Hrecv
  iapply (step_recv m ρ K c 14 (by decide) (by decide) rfl rfl) $$ HR Hrecv; iintro Hrecv
  iapply (step_recv m ρ K c 15 (by decide) (by decide) rfl rfl) $$ HR Hrecv; iintro Hrecv
  unfold recvSt owesAny
  icases Hrecv with ⟨⟨%W3, HO⟩, -, -, Hslots, HzV⟩
  -- the fifteen sends done
  ihave Hsent := (show iprop((∃ W, owes (c : Thread nD τ) 0 W) ∗ (bigSep (rest 1) fun d => atPos EX (sendCell c d) 0 ∅ 0)
      ∗ (bigSep (rest 1) fun d => cred (tallyAt (sendCell c d) () N))) ⊢ (sentSt m ρ c 1 : sProp 𝕄) from by
        unfold sentSt owesAny; rw [done_one, bigSep_empty, bigSep_empty]; iintro ⟨H1, H2, H3⟩
        isplitl [H1]; · iexact H1
        isplitl [H2]; · iexact H2
        isplitl [H3]; · iexact H3
        isplitr <;> iempintro) $$ [HO HaS HcS]
  · isplitl [HO]; · iexists _; iexact HO
    isplitl [HaS] <;> iassumption
  iapply (step_sent m ρ K c 1 (by decide) (by decide) rfl rfl) $$ HR Hsent; iintro Hsent
  iapply (step_sent m ρ K c 2 (by decide) (by decide) rfl rfl) $$ HR Hsent; iintro Hsent
  iapply (step_sent m ρ K c 3 (by decide) (by decide) rfl rfl) $$ HR Hsent; iintro Hsent
  iapply (step_sent m ρ K c 4 (by decide) (by decide) rfl rfl) $$ HR Hsent; iintro Hsent
  iapply (step_sent m ρ K c 5 (by decide) (by decide) rfl rfl) $$ HR Hsent; iintro Hsent
  iapply (step_sent m ρ K c 6 (by decide) (by decide) rfl rfl) $$ HR Hsent; iintro Hsent
  iapply (step_sent m ρ K c 7 (by decide) (by decide) rfl rfl) $$ HR Hsent; iintro Hsent
  iapply (step_sent m ρ K c 8 (by decide) (by decide) rfl rfl) $$ HR Hsent; iintro Hsent
  iapply (step_sent m ρ K c 9 (by decide) (by decide) rfl rfl) $$ HR Hsent; iintro Hsent
  iapply (step_sent m ρ K c 10 (by decide) (by decide) rfl rfl) $$ HR Hsent; iintro Hsent
  iapply (step_sent m ρ K c 11 (by decide) (by decide) rfl rfl) $$ HR Hsent; iintro Hsent
  iapply (step_sent m ρ K c 12 (by decide) (by decide) rfl rfl) $$ HR Hsent; iintro Hsent
  iapply (step_sent m ρ K c 13 (by decide) (by decide) rfl rfl) $$ HR Hsent; iintro Hsent
  iapply (step_sent m ρ K c 14 (by decide) (by decide) rfl rfl) $$ HR Hsent; iintro Hsent
  iapply (step_sent m ρ K c 15 (by decide) (by decide) rfl rfl) $$ HR Hsent; iintro Hsent
  unfold sentSt owesAny
  icases Hsent with ⟨⟨%W4, HO⟩, -, -, Hcts, HzS⟩
  rw [done_end]
  -- the two semaphores of place 0, which nobody raises
  imod (Rounds.cell_close EX (rd m ρ) (Set.mem_univ (K (c, sIx 0))) (fun h => h) (R := 0) (fun r _ => duties_send_zero m ρ c r)) $$ [HaS0] with HzS0
  · isplitr; · iapply (inv_send m ρ K c 0); iexact HR
    iexact HaS0
  imod (Rounds.cell_close EX (rd m ρ) (Set.mem_univ (K (c, rIx 0))) (fun h => h) (R := 0) (fun r _ => duties_recv_zero m ρ c r)) $$ [HaV0] with HzV0
  · isplitr; · iapply (inv_recv m ρ K c 0); iexact HR
    iexact HaV0
  -- the gather buffer whole again, and the result
  ihave Hgat := (show iprop(slotPts c 0 (gath m ρ c) ∗ bigSep (rest 1) fun d => slotPts c d (gath m ρ c))
      ⊢ (((c : Thread nD τ).loc cc0_scratch1) ↦{fullShare} gath m ρ c : sProp 𝕄) from by rw [gather_slots, split_zero]) $$ [Hown Hslots]
  · isplitl [Hown] <;> iassumption
  iapply (wp_load 𝒱₀ (c : Thread nD τ) none Set.univ (m := gM) (Finset.subset_univ _)) $$ Hgat; iintro Hgat
  rw [read_g]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hrest Hct0 Hcts Hgat HzS HzV HzB HzS0 HzV0]
  · isplitl [Hrest Hct0 Hcts Hgat]
    · isplitl [Hrest Hct0 Hcts]
      · iexists (cand m ρ c)
        iapply (Transfers.pointsTo_toks_join fullShare 16)
        isplitl [Hrest]; · iexact Hrest
        iapply (Entails.of_eq (split_zero (F := F) (candTok m ρ c)).symm)
        isplitl [Hct0] <;> iassumption
      · iexists _; iexact Hgat
    isplitl [HzS HzS0]
    · rw [split_zero]; isplitl [HzS0] <;> iassumption
    isplitl [HzV HzV0]
    · rw [split_zero]; isplitl [HzV0] <;> iassumption
    iexact HzB
  isplitl [HO]
  · iexists W4
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 20000 in
/-- The pipeline's obligation on the body of core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs0, Hs1⟩, Ho, Hx, Hout⟩
  iapply (sound_body m ρ K c fun _ => bodyPost m ρ c)
  unfold bodyPre
  isplitr []
  · isplitl [Hg Hcr Hlev Hs0 Hs1]
    · isplitl [Hg]; · iexact Hg
      isplitl [Hcr]; · iexact Hcr
      isplitl [Hlev]; · iexact Hlev
      isplitl [Hs0] <;> iassumption
    isplitl [Ho]; · iexact Ho
    isplitl [Hx] <;> iassumption
  · iintro H; iexact H

end Body

end Cert.TopK

end
-- ==== Proof.Launch.lean ====
/-
# The launch and the run

The launch allocates the cells, deals every device its positions, tokens and credit, and the library's theorem for one
pipeline runs the bodies: every weakly fair execution ends, with each device's result array at its computed contents, the
argument as it was and every semaphore at zero.
-/
module

public import proofs.«01_k».proof.Proof.Body
public import Idealize.ShloMosaic.Lib.Pipeline.CollectiveSegs

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The cells and tokens of the launch -/

theorem csem_injective : Function.Injective csem := by decide +kernel

theorem kcell_injective : Function.Injective (kcell : Dev nD × Option (Fin 32) → GSem nD τ sig) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- A duty token as minted: its device, its place, and which of the three kinds (a raise of the barrier, a send, a receive). -/
def tokOf (x : Dev nD × Fin 16 × Fin 3) : GSem nD τ sig × ℕ × Fin 16 := match x.2.2 with
  | 0 => (barCell x.1, 0, x.2.1) | 1 => (sendCell x.1 x.2.1, 0, 0) | 2 => (recvCell x.1 x.2.1, 0, 0)

theorem sendS_injective : Function.Injective sendS := by decide +kernel
theorem recvS_injective : Function.Injective recvS := by decide +kernel
theorem sendS_ne_recvS (d e : Fin 16) : sendS d ≠ recvS e := by revert d e; decide +kernel

theorem tokOf_injective : Function.Injective tokOf := by
  rintro ⟨c, d, j⟩ ⟨c', d', j'⟩ h
  have h1 : c = c' := by
    have := congrArg (fun x : GSem nD τ sig × ℕ × Fin 16 => x.1.1.1) h
    fin_cases j <;> fin_cases j' <;> exact this
  subst h1
  have hs : (tokOf (c, d, j)).1.2 = (tokOf (c, d', j')).1.2 := congrArg (fun x : GSem nD τ sig × ℕ × Fin 16 => x.1.2) h
  have hd : (tokOf (c, d, j)).2.2 = (tokOf (c, d', j')).2.2 := congrArg (fun x : GSem nD τ sig × ℕ × Fin 16 => x.2.2) h
  fin_cases j <;> fin_cases j' <;> simp only [tokOf] at hs hd
  · rw [hd]
  · cases hs
  · cases hs
  · cases hs
  · rw [sendS_injective (SemLoc.dma.inj hs)]
  · exact absurd (SemLoc.dma.inj hs) (sendS_ne_recvS _ _)
  · cases hs
  · exact absurd (SemLoc.dma.inj hs).symm (sendS_ne_recvS _ _)
  · rw [recvS_injective (SemLoc.dma.inj hs)]

def tokens : Finset (GSem nD τ sig × ℕ × Fin 16) := Finset.univ.map ⟨tokOf, tokOf_injective⟩

def u₀ : UU :=
  (initOf (Pipeline.cells cfgs cellOf_inj) (Pipeline.launchToks cfgs cellOf_inj), initOf cells tokens)

/-- The duty tokens of device `c`'s own cells. -/
def toks (c : Dev nD) : sProp 𝕄 :=
  iprop((bigSep Finset.univ fun d => dutyTok EX (barCell c) 0 d) ∗ (bigSep Finset.univ fun d => dutyTok EX (sendCell c d) 0 0)
    ∗ bigSep Finset.univ fun d => dutyTok EX (recvCell c d) 0 0)

/-- What the launch element deals device `c`. -/
def G (c : Dev nD) : sProp 𝕄 :=
  iprop((bigSep Finset.univ fun k : Option (Fin 32) => roundState EX (rd m ρ) (kcell (c, k)) 0)
    ∗ (bigSep Finset.univ fun k : Option (Fin 32) => iprop(atPos EX (kcell (c, k)) 0 ∅ 0 ∗ reached EX (kcell (c, k)) 0)) ∗ toks c)

/-- What the global step makes of it. -/
def G' (c : Dev nD) : sProp 𝕄 := iprop(∃ K, records m ρ K ∗ linear c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem deal_toks : bigSep tokens (fun x => (dutyTok EX x.1 x.2.1 x.2.2 : sProp 𝕄)) = bigSep Finset.univ fun c : Dev nD => toks c := by
  unfold tokens
  rw [bigSep_map, bigSep_univ_prod]
  refine bigSep_congr fun c _ => ?_
  rw [bigSep_univ_prod]
  unfold toks
  rw [← bigSep_sep', ← bigSep_sep']
  refine bigSep_congr fun d _ => ?_
  rw [bigSep_fin3]
  rfl

/-- Every family over the cells is one over the devices and their semaphores. -/
theorem cells_eq (Φ : GSem nD τ sig → sProp 𝕄) :
    bigSep cells Φ = bigSep Finset.univ fun c : Dev nD => bigSep Finset.univ fun k : Option (Fin 32) => Φ (kcell (c, k)) := by
  unfold cells; rw [bigSep_map, bigSep_univ_prod]; rfl

theorem fund_cells : BI.own (EX (initOf cells tokens)) ⊢ (|==> bigSep Finset.univ (G m ρ) : sProp 𝕄) := by
  iintro HX
  imod (Rounds.fund EX (rd m ρ) cells tokens) $$ HX with ⟨Hst, Hr, Hat, Htok⟩
  imodintro
  ihave Hst' := (Entails.of_eq (cells_eq fun g => roundState EX (rd m ρ) g 0)) $$ Hst
  ihave Hat' := (Entails.of_eq (cells_eq fun g => atPos EX g 0 ∅ 0)) $$ Hat
  ihave Hr' := (Entails.of_eq (cells_eq fun g => reached EX g 0)) $$ Hr
  ihave Htok' := (Entails.of_eq (deal_toks (F := F))) $$ Htok
  unfold G; simp only [bigSep_sep']
  isplitl [Hst']; · iexact Hst'
  isplitl [Hat' Hr']
  · isplitl [Hat'] <;> iassumption
  iexact Htok'

/-! ## The semaphores -/

/-- The first sixteen of the kernel's own semaphores are the sends', the last sixteen the receives'. -/
def halves : Fin 16 ⊕ Fin 16 ≃ Fin 32 := finSumFinEquiv

theorem osem_left (d : Fin 16) : osem (halves (Sum.inl d)) = .dma (sendS d) := by revert d; decide +kernel
theorem osem_right (d : Fin 16) : osem (halves (Sum.inr d)) = .dma (recvS d) := by revert d; decide +kernel

omit [FloatOps F] in
/-- A family over the kernel's own semaphores, by the sends' and the receives'. -/
theorem own_split (Φ : SemLoc sig → sProp 𝕄) :
    (bigSep Finset.univ fun k : Fin 32 => Φ (osem k)) = iprop((bigSep Finset.univ fun d => Φ (.dma (sendS d))) ∗ bigSep Finset.univ fun d => Φ (.dma (recvS d))) := by
  rw [bigSep_univ_equiv halves, BI.bigSep_univ_sum]
  simp only [osem_left, osem_right]; rfl

omit [FloatOps F] in
theorem all_split (Φ : SemLoc sig → sProp 𝕄) :
    (bigSep Finset.univ fun k : Option (Fin 32) => Φ (csem k)) = iprop(Φ (.reg barS) ∗ bigSep Finset.univ fun k : Fin 32 => Φ (osem k)) := by
  rw [bigSep_univ_equiv ((Equiv.sumComm _ _).trans (Equiv.optionEquivSumPUnit.{0} (Fin 32)).symm), BI.bigSep_univ_sum,
    bigSep_eq_bigSepL_of_eq [PUnit.unit] (by decide) (by decide)]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 32 => semVal ((c : Thread nD τ), osem k) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 32) => semVal (kcell (c, k)) 0 : sProp 𝕄) := by
  rw [ownSems0_eq, unscopedSems0_eq, all_split fun s => semVal ((c : Thread nD τ), s) 0]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (rd m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 32) => semVal (kcell (c, k)) 0) ∗ bigSep Finset.univ fun k : Option (Fin 32) => roundState EX (rd m ρ) (kcell (c, k)) 0)
      ⊢ (|={Set.univ}=> bigSep Finset.univ fun k => iprop(∃ κ : ℕ, cellInv EX (rd m ρ) κ (kcell (c, k))) : sProp 𝕄) from by
        rw [← bigSep_sep']
        exact (bigSep_mono fun k _ => (Rounds.body_intro EX (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

omit [FloatOps F] in
theorem drop_zero (Φ : Fin 16 → sProp 𝕄) : bigSep Finset.univ Φ ⊢ bigSep (rest 1) Φ := by
  rw [split_zero]; iintro ⟨-, H⟩; iexact H

omit [FloatOps F] in
/-- A family over devices and places, its devices moved on by the place. -/
theorem move_on (Φ : Dev nD → Fin 16 → sProp 𝕄) :
    (bigSep Finset.univ fun c : Dev nD => bigSep Finset.univ fun d => Φ c d) = bigSep Finset.univ fun c : Dev nD => bigSep Finset.univ fun d => Φ (fwd c d) d := by
  rw [BI.bigSep_univ_comm, BI.bigSep_univ_comm fun (c : Dev nD) d => Φ (fwd c d) d]
  exact bigSep_congr fun d _ => bigSep_univ_equiv (shift d) fun c => Φ c d

omit [FloatOps F] in
/-- The barrier tokens of every device, listed by who raises it at which place: the raise from place `d` is duty `-d`. -/
theorem bar_around :
    (bigSep Finset.univ fun c : Dev nD => bigSep Finset.univ fun d => (dutyTok EX (barCell c) 0 d : sProp 𝕄))
      = bigSep Finset.univ fun c : Dev nD => bigSep Finset.univ fun d => dutyTok EX (barCell (fwd c d)) 0 (-d) := by
  rw [← move_on fun c d => dutyTok EX (barCell c) 0 (-d)]
  exact bigSep_congr fun c _ => bigSep_univ_equiv negs fun d => dutyTok EX (barCell c) 0 d

/-- The tokens of the duties device `c` pays. -/
def payToks (c : Dev nD) : sProp 𝕄 :=
  iprop((bigSep (rest 1) fun d => dutyTok EX (barCell (fwd c d)) 0 (-d))
    ∗ (bigSep (rest 1) fun d => dutyTok EX (sendCell c d) 0 0)
    ∗ bigSep (rest 1) fun d => dutyTok EX (recvCell (fwd c d) d) 0 0)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, move_on fun c d => dutyTok EX (recvCell c d) 0 0]
  exact BI.sep_mono (bigSep_mono fun c _ => drop_zero _) (BI.sep_mono (bigSep_mono fun c _ => drop_zero _) (bigSep_mono fun c _ => drop_zero _))

omit [FloatOps F] in
/-- The positions of a device, listed as `linear` lists them. -/
theorem positions (c : Dev nD) : (bigSep Finset.univ fun k : Option (Fin 32) => (atPos EX (kcell (c, k)) 0 ∅ 0 : sProp 𝕄))
    = iprop(atPos EX (barCell c) 0 ∅ 0 ∗ (bigSep Finset.univ fun d => atPos EX (sendCell c d) 0 ∅ 0) ∗ bigSep Finset.univ fun d => atPos EX (recvCell c d) 0 ∅ 0) := by
  rw [all_split fun s => atPos EX ((c : Thread nD τ), s) 0 ∅ 0, own_split fun s => atPos EX ((c : Thread nD τ), s) 0 ∅ 0]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_intro (K : Names) (c : Dev nD) : iprop(records m ρ K ∗ linear c) ⊢ G' m ρ c := by
  unfold G'; iintro H; iexists K; iexact H

theorem regroup :
    (bigSep Finset.univ fun c : Dev nD => iprop((bigSep Finset.univ fun k => iprop(∃ κ : ℕ, cellInv EX (rd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Option (Fin 32) => iprop(∃ κ : ℕ, cellInv EX (rd m ρ) κ (kcell ck))),
    bigSep_congr (s := Finset.univ) (fun (c : Dev nD) _ => bigSep_sep' Finset.univ (fun k : Option (Fin 32) => (atPos EX (kcell (c, k)) 0 ∅ 0 : sProp 𝕄)) (fun k => reached EX (kcell (c, k)) 0)),
    bigSep_sep', ← bigSep_univ_prod (fun ck : Dev nD × Option (Fin 32) => (reached EX (kcell ck) 0 : sProp 𝕄))]
  iintro ⟨HI, ⟨Hat, #HR⟩, Htok⟩
  ihave HK := (BI.bigSep_exists_pi Finset.univ (fun (ck : Dev nD × Option (Fin 32)) (κ : ℕ) => (cellInv EX (rd m ρ) κ (kcell ck) : sProp 𝕄))) $$ HI
  icases HK with ⟨%K, #HI⟩
  ihave Htk := (toks_around (F := F)) $$ Htok
  iapply (bigSep_with_persistent (R := records m ρ K) fun c _ => share_intro m ρ K c)
  isplitr
  · unfold records; isplitl; · iexact HI
    iexact HR
  · iapply ((Entails.of_eq (bigSep_sep' Finset.univ (fun c : Dev nD => bigSep Finset.univ fun k : Option (Fin 32) => (atPos EX (kcell (c, k)) 0 ∅ 0 : sProp 𝕄)) payToks).symm).trans
      (bigSep_mono fun c _ => show _ ⊢ linear c from Entails.of_eq (by unfold linear payToks; rw [positions])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_iff {a b : Dev nD} : barCell a = barCell b ↔ a = b :=
  ⟨fun h => Fin.ext (congrArg (fun g : GSem nD τ sig => g.1.1.val) h), fun h => h ▸ rfl⟩
theorem recv_iff {a b : Dev nD} {d e : Fin 16} : recvCell a d = recvCell b e ↔ a = b ∧ d = e :=
  ⟨fun h => ⟨Fin.ext (congrArg (fun g : GSem nD τ sig => g.1.1.val) h), recvS_injective (SemLoc.dma.inj (congrArg Prod.snd h))⟩,
    fun ⟨h, h'⟩ => h ▸ h' ▸ rfl⟩
theorem recv_ne_bar (a b : Dev nD) (d : Fin 16) : recvCell a d ≠ barCell b := fun h => by cases congrArg Prod.snd h

/-- The tallies of a family of cells, read at one cell. -/
theorem sum_tally (S : Finset (Fin 16)) (f : Fin 16 → GSem nD τ sig) (n : ℕ) (g : GSem nD τ sig) :
    (∑ d ∈ S, tallyAt (f d) () n : CellTallies nD τ sig Unit) g () = ∑ d ∈ S, if g = f d then n else 0 := by
  rw [Finset.sum_apply, Finsupp.finset_sum_apply]
  exact Finset.sum_congr rfl fun d _ => by rw [tallyAt_apply]; simp only [and_true]

theorem owed_bar (b c : Dev nD) : Obar b 1 (barCell c) () = ∑ d ∈ rest 1, if c = fwd b d then 1 else 0 := by
  unfold Obar Orecv
  rw [Pi.add_apply, Finsupp.add_apply, sum_tally, sum_tally, Finset.sum_eq_zero fun d _ => if_neg (recv_ne_bar _ _ _).symm, Nat.zero_add]
  exact Finset.sum_congr rfl fun d _ => by simp only [bar_iff]

theorem owed_recv (b c : Dev nD) (e : Fin 16) : Obar b 1 (recvCell c e) () = ∑ d ∈ rest 1, if c = fwd b d ∧ e = d then N else 0 := by
  unfold Obar Orecv
  rw [Pi.add_apply, Finsupp.add_apply, sum_tally, sum_tally, Finset.sum_eq_zero (s := rest 1) (f := fun d => if recvCell c e = barCell (fwd b d) then 1 else 0) fun d _ => if_neg (recv_ne_bar _ _ _), Nat.add_zero]
  exact Finset.sum_congr rfl fun d _ => by simp only [recv_iff]

/-- Every device is owed one raise from each other place. -/
theorem count_bar (c : Dev nD) : (∑ b : Dev nD, ∑ d ∈ rest 1, if c = fwd b d then 1 else 0) = 15 := by revert c; decide +kernel
/-- Device `c`'s receive cell of place `e` is owed by one device at one place. -/
theorem count_recv (c : Dev nD) (e : Fin 16) (he : e ≠ 0) (n : ℕ) : (∑ b : Dev nD, ∑ d ∈ rest 1, if c = fwd b d ∧ e = d then n else 0) = n := by
  rw [Finset.sum_eq_single (frm c e), Finset.sum_eq_single e, if_pos ⟨(fwd_frm c e).symm, rfl⟩]
  · exact fun d _ hd => if_neg fun h => hd h.2.symm
  · exact fun h => absurd (mem_rest_one.mpr he) h
  · exact fun b _ hb => Finset.sum_eq_zero fun d _ => if_neg fun h => hb (by rw [h.2, h.1, frm_fwd])
  · exact fun h => absurd (Finset.mem_univ _) h

theorem launch_bar (c : Dev nD) :
    tallyOn (barCell c) (launchCredit (Pipeline.owing fun b => Obar b 1) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun b _ => owed_bar b c, count_bar]

theorem launch_recv (c : Dev nD) (d : Fin 16) (hd : d ≠ 0) :
    tallyOn (recvCell c d) (launchCredit (Pipeline.owing fun b => Obar b 1) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun b _ => owed_recv b c d, count_recv c d hd]

/-- The receive semaphores of the places other than 0, as a set. -/
def recvLocs : Finset (SemLoc sig) := (rest 1).map ⟨fun d => .dma (recvS d), fun a b h => recvS_injective (SemLoc.dma.inj h)⟩

omit [FloatOps F] in
theorem creds (c : Dev nD) : (Pipeline.launchCred (fun b => Obar b 1) c : sProp 𝕄) ⊢ credits c := by
  unfold Pipeline.launchCred credits
  rw [bigSep_univ_at _ (SemLoc.reg barS), launch_bar]
  refine sep_mono_right ?_
  refine (BI.bigSep_subset (t := recvLocs) (fun s hs => ?_)).trans ?_
  · obtain ⟨d, -, rfl⟩ := Finset.mem_map.mp hs
    simp
  · unfold recvLocs
    rw [bigSep_map]
    exact Entails.of_eq (bigSep_congr fun d hd => congrArg cred (launch_recv c d (mem_rest_one.mp hd)))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun b => Obar b 1) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq,
    own_split fun s => semVal ((c : Thread nD τ), s) 0]
  unfold Φ₁
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage (F := F) c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of the program terminates, and every final state has each device's result array at the computed contents, the
    argument unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Obar c 1) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Frames.lean ====
/-
# The frames

Each program runs to its end from any memory, leaves its argument unchanged and every semaphore at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.TopK

open Idealize.ShloMosaic Idealize.SL.Sem

/-- The kernel's text over any float values. -/
theorem frame_of {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c 0).trans (finalA_x m ρ c), h.2⟩) (run_main (F := F) m ρ)

/-- The kernel at exact extended reals. -/
theorem frame_kernelIdeal : Cert.quiescent_KernelIdeal := fun m ρ _ => frame_of m ρ

/-- The two printings of the kernel have one table of bodies. -/
theorem bodies_eq {F : FTy → Type} [FloatOps F] : Cert.Kernel.defs₀ (F := F) = Cert.KernelIdeal.defs₀ :=
  congrArg Defs.onTc (funext fun l => funext fun a => by
    obtain ⟨_ | n, h⟩ := l
    · obtain ⟨t, s⟩ := a; rfl
    · exact absurd h (Nat.not_lt.2 (Nat.le_add_left _ _)))

theorem defs_eq {F : FTy → Type} [FloatOps F] : Cert.Kernel.defs (F := F) = Cert.KernelIdeal.defs :=
  congrArg (Pipeline.defs Cert.Kernel.pcfgs) bodies_eq

/-- The kernel at hardware floats: its text is the one the run is written for. -/
theorem frame_kernel : Cert.quiescent_Kernel := fun m ρ _ => by
  rw [defs_eq]; exact frame_of m ρ

/-- The reference: a straight-line host program that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.MaskFacts.lean ====
module

public import proofs.«01_k».proof.On_retained

/-!
# The shapes of the mask

Every side condition the mask's program states about its shapes.
-/

@[expose] public section

namespace Cert.TopK

/-- The mask's shapes fit together as its program says. -/
instance maskFacts : Cert.On_retained.Facts := by
  constructor <;> decide +kernel

end Cert.TopK

end
-- ==== Proof.Peel.lean ====
module

public import Mathlib.Data.EReal.Basic
public import Mathlib.Data.Fintype.Card
public import Mathlib.Data.Fintype.Prod
public import Mathlib.Order.ConditionallyCompleteLattice.Finset

/-!
# Peeling the greatest values of a finite family

The kernel finds the greatest values of a family one after another: the greatest, then the greatest of those strictly below
it, and so on. This module is the mathematics of that, over the extended reals and with nothing of the kernel in it: which
values the peeling reaches, and that peeling first along lanes, then in each part, then over all the parts, gives the greatest
values in order where no lane and no part holds too many of them and they are distinct.
-/

@[expose] public section

namespace Cert.TopK

variable {ι κ : Type*}

/-- The greatest of the entries strictly below `v`. -/
noncomputable def below (f : ι → EReal) (v : EReal) : EReal := ⨆ i, if f i < v then f i else ⊥

/-- The greatest entry, then the greatest of those strictly below it, and so on. -/
noncomputable def peel (f : ι → EReal) : ℕ → EReal
  | 0 => ⨆ i, f i
  | k + 1 => below f (peel f k)

/-- Peeling does not see the names of the entries. -/
theorem peel_comp (f : ι → EReal) (e : κ ≃ ι) (k : ℕ) : peel (fun i => f (e i)) k = peel f k := by
  induction k with
  | zero => exact e.iSup_comp (g := f)
  | succ k ih =>
    unfold peel
    rw [ih]
    exact e.iSup_comp (g := fun i => if f i < peel f k then f i else ⊥)

theorem le_peel_zero (f : ι → EReal) (i : ι) : f i ≤ peel f 0 := le_iSup f i

/-- An entry below the last value peeled is at most the next one. -/
theorem le_peel_succ (f : ι → EReal) {k : ℕ} {i : ι} (h : f i < peel f k) : f i ≤ peel f (k + 1) := by
  calc f i = if f i < peel f k then f i else ⊥ := (if_pos h).symm
    _ ≤ ⨆ i, if f i < peel f k then f i else ⊥ := le_iSup (fun i => if f i < peel f k then f i else ⊥) i

/-- A supremum over a finite family, when it is not the least element, is one of the entries. -/
theorem exists_eq_iSup [Finite ι] (f : ι → EReal) (h : ⊥ < ⨆ i, f i) : ∃ i, f i = ⨆ i, f i := by
  rcases isEmpty_or_nonempty ι with he | hn
  · simp at h
  · exact exists_eq_ciSup_of_finite

/-- What is peeled after the first value, when it is not the least element, is an entry strictly below the value before. -/
theorem peel_succ_spec [Finite ι] (f : ι → EReal) {k : ℕ} (h : ⊥ < peel f (k + 1)) :
    ∃ i, f i = peel f (k + 1) ∧ f i < peel f k := by
  obtain ⟨i, hi⟩ := exists_eq_iSup (fun i => if f i < peel f k then f i else ⊥) h
  by_cases hlt : f i < peel f k
  · exact ⟨i, (if_pos hlt).symm.trans hi, hlt⟩
  · rw [if_neg hlt] at hi
    exact absurd hi h.ne

/-- A peeled value is an entry, or the least element. -/
theorem peel_attained [Finite ι] (f : ι → EReal) {k : ℕ} (h : ⊥ < peel f k) : ∃ i, f i = peel f k := by
  cases k with
  | zero => exact exists_eq_iSup f h
  | succ k => exact (peel_succ_spec f h).imp fun _ hi => hi.1

/-- The values peeled fall strictly until the least element. -/
theorem peel_lt [Finite ι] (f : ι → EReal) {a b : ℕ} (hab : a < b) (h : ⊥ < peel f b) : peel f b < peel f a := by
  induction b with
  | zero => omega
  | succ b ih =>
    obtain ⟨i, hi, hlt⟩ := peel_succ_spec f h
    rw [hi] at hlt
    rcases Nat.lt_succ_iff_lt_or_eq.mp hab with hab' | rfl
    · exact hlt.trans (ih hab' (h.trans hlt))
    · exact hlt

/-- Two places that peel the same value above the least element are one. -/
theorem peel_inj [Finite ι] (f : ι → EReal) {a b : ℕ} (h : ⊥ < peel f a) (hab : peel f a = peel f b) : a = b := by
  rcases Nat.lt_trichotomy a b with hlt | rfl | hlt
  · exact absurd hab (peel_lt f hlt (hab ▸ h)).ne'
  · rfl
  · exact absurd hab (peel_lt f hlt h).ne

/-- An entry with at most `n` entries at or above it, itself among them, is one of the first `n` values peeled. -/
theorem peel_reaches [Fintype ι] (f : ι → EReal) {v : EReal} (hv : ⊥ < v) {i : ι} (hi : f i = v) {n : ℕ}
    (hn : (Finset.univ.filter fun i => v ≤ f i).card ≤ n) : ∃ j < n, peel f j = v := by
  classical
  by_contra hne
  push Not at hne
  have habove : ∀ j, j < n → v < peel f j := by
    intro j
    induction j with
    | zero => exact fun hj => lt_of_le_of_ne (hi ▸ le_peel_zero f i) (hne 0 hj).symm
    | succ j ih =>
      intro hj
      have h := ih (by omega)
      exact lt_of_le_of_ne (hi ▸ le_peel_succ f (hi ▸ h)) (hne _ hj).symm
  choose w hw using fun j : Fin n => peel_attained f (hv.trans (habove j j.isLt))
  have hinj : Function.Injective w := fun a b hab => Fin.ext (peel_inj f (hv.trans (habove a a.isLt)) (by rw [← hw a, ← hw b, hab]))
  have hsub : insert i (Finset.univ.image w) ⊆ Finset.univ.filter fun i => v ≤ f i := by
    intro x hx
    rcases Finset.mem_insert.mp hx with rfl | hx
    · simp [hi]
    · obtain ⟨j, -, rfl⟩ := Finset.mem_image.mp hx
      simpa [hw j] using (habove j j.isLt).le
  have hni : i ∉ Finset.univ.image w := by
    intro hx
    obtain ⟨j, -, hj⟩ := Finset.mem_image.mp hx
    exact absurd (hw j) (by rw [hj, hi]; exact (habove j j.isLt).ne)
  have := Finset.card_le_card hsub
  rw [Finset.card_insert_of_notMem hni, Finset.card_image_of_injective _ hinj, Finset.card_univ, Fintype.card_fin] at this
  omega

/-- A family that holds `t 0 > … > t k`, has nothing above `t 0` and nothing strictly between two of them in turn, peels to
    them. -/
theorem peel_eq_of (g : ι → EReal) (t : ℕ → EReal) (k : ℕ) (hdec : ∀ j < k, t (j + 1) < t j) (h0 : ∀ i, g i ≤ t 0)
    (hstep : ∀ j < k, ∀ i, g i < t j → g i ≤ t (j + 1)) (hat : ∀ j ≤ k, ∃ i, g i = t j) : ∀ j ≤ k, peel g j = t j := by
  intro j
  induction j with
  | zero =>
    intro _
    obtain ⟨i, hi⟩ := hat 0 (Nat.zero_le _)
    exact le_antisymm (iSup_le h0) (hi ▸ le_iSup g i)
  | succ j ih =>
    intro hj
    have e := ih (by omega)
    obtain ⟨i, hi⟩ := hat (j + 1) hj
    refine le_antisymm (iSup_le fun i => ?_) ?_
    · rw [e]
      split
      · exact hstep j (by omega) i (by assumption)
      · exact bot_le
    · exact hi ▸ le_peel_succ g (by rw [e, hi]; exact hdec j (by omega))

section Parts

variable {D S L : Type*} [Fintype D] [Fintype S] [Fintype L] (X : D → S → L → EReal)

/-- The candidates of part `d`: of each lane the two greatest values. -/
noncomputable def lanes (d : D) (p : Fin 2 × L) : EReal := peel (fun s => X d s p.2) p.1

/-- What the parts hand over: of each part the eight greatest candidates. -/
noncomputable def handed (p : D × Fin 8) : EReal := peel (lanes X p.1) p.2

/-- What is handed over is an entry, or the least element. -/
theorem handed_attained (p : D × Fin 8) : handed X p = ⊥ ∨ ∃ d s l, handed X p = X d s l := by
  rcases eq_bot_or_bot_lt (handed X p) with h | h
  · exact .inl h
  · obtain ⟨q, hq⟩ := peel_attained (lanes X p.1) h
    have h' : ⊥ < peel (fun s => X p.1 s q.2) q.1 := by
      change ⊥ < lanes X p.1 q
      rw [hq]
      exact h
    obtain ⟨s, hs⟩ := peel_attained _ h'
    exact .inr ⟨p.1, s, q.2, hq.symm.trans hs.symm⟩

/-- A part has no more candidates at or above a value than entries. -/
theorem card_lanes_le (d : D) {v : EReal} (hv : ⊥ < v) :
    (Finset.univ.filter fun p : Fin 2 × L => v ≤ lanes X d p).card ≤ (Finset.univ.filter fun p : S × L => v ≤ X d p.1 p.2).card := by
  classical
  have hat : ∀ p : Fin 2 × L, v ≤ lanes X d p → ∃ s, X d s p.2 = lanes X d p := fun p h => peel_attained _ (hv.trans_le h)
  rcases isEmpty_or_nonempty S with he | hn
  · rw [Finset.filter_eq_empty_iff.mpr fun p _ h => he.elim (hat p h).choose]
    exact Nat.zero_le _
  choose! w hw using hat
  refine Finset.card_le_card_of_injOn (fun p => (w p, p.2)) ?_ ?_
  · intro p hp
    have hp' : v ≤ lanes X d p := by simpa using hp
    simpa [hw p hp'] using hp'
  · rintro ⟨a, l⟩ hp ⟨b, l'⟩ hq heq
    have hp' : v ≤ lanes X d (a, l) := by simpa using hp
    have hq' : v ≤ lanes X d (b, l') := by simpa using hq
    obtain ⟨hs, rfl⟩ : w (a, l) = w (b, l') ∧ l = l' := Prod.ext_iff.mp heq
    have e : lanes X d (a, l) = lanes X d (b, l) := by rw [← hw _ hp', ← hw _ hq', hs]
    exact Prod.ext (Fin.ext (peel_inj (fun s => X d s l) (hv.trans_le hp') e)) rfl

/-- An entry with at most two entries of its lane and eight of its part at or above it is handed over. -/
theorem handed_reaches {d : D} {s : S} {l : L} {v : EReal} (hv : ⊥ < v) (hX : X d s l = v)
    (hlane : (Finset.univ.filter fun s => v ≤ X d s l).card ≤ 2)
    (hpart : (Finset.univ.filter fun p : S × L => v ≤ X d p.1 p.2).card ≤ 8) : ∃ p, handed X p = v := by
  obtain ⟨a, ha, e⟩ := peel_reaches (fun s => X d s l) hv hX hlane
  obtain ⟨q, hq, e'⟩ := peel_reaches (lanes X d) hv (i := (⟨a, ha⟩, l)) e ((card_lanes_le X d hv).trans hpart)
  exact ⟨(d, ⟨q, hq⟩), e'⟩

/-- The whole selection: let `t 0 > … > t k` be entries with nothing above the first and nothing strictly between two in turn,
    and let no lane have more than two entries, no part more than eight, at or above `t k`. Then peeling what the parts hand over
    gives them in order. -/
theorem peel_handed (t : ℕ → EReal) (k : ℕ) (hbot : ⊥ < t k) (hdec : ∀ j < k, t (j + 1) < t j)
    (hat : ∀ j ≤ k, ∃ d s l, X d s l = t j) (h0 : ∀ d s l, X d s l ≤ t 0)
    (hstep : ∀ j < k, ∀ d s l, X d s l < t j → X d s l ≤ t (j + 1))
    (hlane : ∀ d l, (Finset.univ.filter fun s => t k ≤ X d s l).card ≤ 2)
    (hpart : ∀ d, (Finset.univ.filter fun p : S × L => t k ≤ X d p.1 p.2).card ≤ 8) : peel (handed X) k = t k := by
  have hge : ∀ n j, j + n = k → t k ≤ t j := by
    intro n
    induction n with
    | zero => intro j hj; exact (congrArg t (show k = j by omega)).le
    | succ n ih => exact fun j hj => (ih (j + 1) (by omega)).trans (hdec j (by omega)).le
  have hle : ∀ j ≤ k, t k ≤ t j := fun j hj => hge (k - j) j (by omega)
  refine peel_eq_of (handed X) t k hdec (fun p => ?_) (fun j hj p h => ?_) (fun j hj => ?_) k le_rfl
  · rcases handed_attained X p with e | ⟨d, s, l, e⟩
    · exact e ▸ bot_le
    · exact e ▸ h0 d s l
  · rcases handed_attained X p with e | ⟨d, s, l, e⟩
    · exact e ▸ bot_le
    · exact e ▸ hstep j hj d s l (e ▸ h)
  · obtain ⟨d, s, l, e⟩ := hat j hj
    refine handed_reaches X (hbot.trans_le (hle j hj)) e ((Finset.card_le_card ?_).trans (hlane d l)) ((Finset.card_le_card ?_).trans (hpart d))
    · exact Finset.monotone_filter_right _ fun _ _ h => (hle j hj).trans h
    · exact Finset.monotone_filter_right _ fun _ _ h => (hle j hj).trans h

end Parts

end Cert.TopK

end
-- ==== Proof.Reads.lean ====
module

public import proofs.«01_k».proof.Proof.Peel
public import proofs.«01_k».proof.Proof.Gen.KernelIdeal.Skeleton
public import Idealize.ShloMosaic.Lib.Pipeline.ValueKit
public import Idealize.ShloMosaic.Lib.Pointwise
public import Idealize.ShloMosaic.PureOps.Ideal.Laws

/-!
# The kernel's two operations, read over the extended reals

A maximum taken along an axis from the constant minus infinity is the supremum over that axis, and the kernel's step (keep what
is strictly below a value, replace the rest by minus infinity, take the maximum) is the greatest entry below that value.
-/

@[expose] public section

set_option maxRecDepth 16384

noncomputable section

namespace Cert.TopK

open Idealize.ShloMosaic

/-- The constant the kernel masks with is the least element. -/
theorem negInf_eq : Ideal.ofBits .f32 0xFF800000#32 = (⊥ : EReal) := by simp [Ideal.ofBits, Ideal.ieee]

theorem fold_max_bot {ι : Type*} [Fintype ι] (f : ι → EReal) : (Finset.univ : Finset ι).fold max ⊥ f = ⨆ i, f i :=
  Finset.sup_univ_eq_iSup f

/-- A maximum along one axis is the supremum over that axis. -/
theorem max_along {s t : Shape} {a : Fin s.rank} (src : FVec Ideal s .f32) (h : s.Reduces [a] t) (hφ : FKind.Formats .f32)
    (hacc : 0xFF800000#32 = FKind.maximumf.neutral .f32 hφ) (j : t.Idx) :
    multiReduction .maximumf [a] t src 0xFF800000#32 h hφ hacc j = ⨆ k : Fin (s.size a), src (h.lift j k) := by
  rw [Ideal.multiReduction_maximumf_single]
  change Finset.fold max (Ideal.ofBits .f32 0xFF800000#32) _ _ = _
  rw [negInf_eq]
  exact fold_max_bot _

/-- One entry of the mask step: kept when strictly below the value, else the least element. -/
theorem keep_below (x v : EReal) :
    (if Ideal.cmp .olt x v = 1#1 then x else Ideal.ofBits .f32 0xFF800000#32) = if x < v then x else ⊥ := by
  rw [negInf_eq]
  by_cases h : x < v <;> simp [Ideal.cmp, h]

/-- Masking what equals the greatest keeps what is strictly below it. -/
theorem drop_equal (x v : EReal) (h : x ≤ v) :
    (if Ideal.cmp .oeq x v = 1#1 then Ideal.ofBits .f32 0xFF800000#32 else x) = if x < v then x else ⊥ := by
  rw [negInf_eq]
  by_cases e : x = v
  · simp [Ideal.cmp, e]
  · simp [Ideal.cmp, e, lt_of_le_of_ne h e]

end Cert.TopK

end

end
-- ==== Proof.Reference.lean ====
module

public import proofs.«01_k».proof.Proof.MaskFacts
public import proofs.«01_k».proof.Proof.Reads
public import Idealize.ShloMosaic.Lib.SortFacts
public import Idealize.ShloMosaic.Lib.ValueIdxCore
public import Idealize.ShloMosaic.Lib.ReduceAll
public import Idealize.ShloMosaic.Lib.Routing.OpsPair
public import Idealize.ShloMosaic.Lib.StableHlo.Predicate

/-!
# What the reference computes

The reference sorts the columns of every row by the negated entries and takes the entries at the first sixteen of the sorted
columns: element `(r, k)` of its result is entry `k` of row `r` in an order that never increases.
-/

@[expose] public section

set_option maxRecDepth 16384

noncomputable section

namespace Cert.TopK

open Idealize.ShloMosaic
open Cert.On_retained Cert.On_retained.Facts

/-- The sort's comparison is the strict order of the keys. -/
theorem before_eq (l r : EReal × BitVec 32) :
    comparator_f32_i32_d1 (F := Ideal) l r = BitVec.ofBool (decide (l.1 < r.1)) := by
  have canon : ∀ x : EReal,
      Scalar.select (Ideal.cmp .une x x) (Ideal.ofBits .f32 0x7FC00000#32)
        (Scalar.select (Ideal.cmp .oeq x (Ideal.ofBits .f32 0x00000000#32)) (Ideal.ofBits .f32 0x00000000#32) x) = x := by
    intro x
    have z : Ideal.ofBits .f32 0x00000000#32 = (0 : EReal) := by simp [Ideal.ofBits, Ideal.ieee]
    rw [z]
    by_cases h : x = 0 <;> simp [Scalar.select, Ideal.cmp, h]
  exact congrArg₂ (Ideal.cmp .olt) (canon l.1) (canon r.1)

/-- Whether one entry of a row sorts before another: by the negated entries. -/
def earlier (x : Fin 65536 → EReal) (a b : Fin 65536) : Bool := decide (-x a < -x b)

/-- The column whose entry the sort of row `x` puts at place `j`. -/
def column (x : Fin 65536 → EReal) (j : Fin 65536) : Fin 65536 := sortedFrom (earlier x) j

/-- Every column is put at some place. -/
theorem column_surjective (x : Fin 65536 → EReal) : Function.Surjective (column x) := sortedFrom_surjective _

/-- The entries in the order of their places never increase. -/
theorem column_le (x : Fin 65536 → EReal) {i j : Fin 65536} (h : i ≤ j) : x (column x j) ≤ x (column x i) := by
  rcases h.eq_or_lt with rfl | h
  · exact le_rfl
  · have := sortedFrom_noInversion (earlier x) (earlier x)
      (fun a b hab => by simp only [earlier, decide_eq_true_eq, decide_eq_false_iff_not] at *; exact hab.not_gt)
      (fun a b hab => hab)
      (fun a b c hab hbc => by
        simp only [earlier, decide_eq_false_iff_not, not_lt] at *; exact hbc.trans hab) i j h
    simp only [earlier, decide_eq_false_iff_not, not_lt] at this
    exact EReal.neg_le_neg_iff.1 this

/-- The sorted columns of a row. -/
theorem argsort_apply (X : FVec Ideal S512x65536 .f32) (r : Fin 512) (j : Fin 65536) :
    fn_argsort (F := Ideal) (Host.negf X) (ix2 r j) = BitVec.ofNat 32 (column (fun n => X (ix2 r n)) j).val := by
  have al : ∀ k : Fin 65536, (ix2 r j : S512x65536.Idx).along (1 : Fin 2) k = ix2 r k := by
    intro k; funext a; fin_cases a <;> rfl
  have io : ∀ p : Fin 65536, iotaInDim S512x65536 32 1 (ix2 r p) = BitVec.ofNat 32 p.val := fun p => rfl
  unfold column
  have rel : (fun a b : Fin 65536 =>
      comparator_f32_i32_d1 (F := Ideal)
        (Host.negf X ((ix2 r j : S512x65536.Idx).along (1 : Fin 2) a), iotaInDim S512x65536 32 1 ((ix2 r j : S512x65536.Idx).along (1 : Fin 2) a))
        (Host.negf X ((ix2 r j : S512x65536.Idx).along (1 : Fin 2) b), iotaInDim S512x65536 32 1 ((ix2 r j : S512x65536.Idx).along (1 : Fin 2) b))
        == 1#1) = earlier fun n => X (ix2 r n) := by
    funext a b
    rw [before_eq, al, al]
    by_cases h : -X (ix2 r a) < -X (ix2 r b)
    · have : Host.negf X (ix2 r a) < Host.negf X (ix2 r b) := h
      simp [earlier, h, this]
    · have : ¬ Host.negf X (ix2 r a) < Host.negf X (ix2 r b) := h
      simp [earlier, h, this]
  have e : fn_argsort (F := Ideal) (Host.negf X) (ix2 r j)
      = iotaInDim S512x65536 32 1 ((ix2 r j : S512x65536.Idx).along (1 : Fin 2) (sortedFrom (fun a b : Fin 65536 =>
      comparator_f32_i32_d1 (F := Ideal)
        (Host.negf X ((ix2 r j : S512x65536.Idx).along (1 : Fin 2) a), iotaInDim S512x65536 32 1 ((ix2 r j : S512x65536.Idx).along (1 : Fin 2) a))
        (Host.negf X ((ix2 r j : S512x65536.Idx).along (1 : Fin 2) b), iotaInDim S512x65536 32 1 ((ix2 r j : S512x65536.Idx).along (1 : Fin 2) b))
        == 1#1) j)) := rfl
  rw [e, rel]
  generalize earlier (fun n => X (ix2 r n)) = b
  exact (congrArg (iotaInDim S512x65536 32 1) (al (sortedFrom b j))).trans (io (sortedFrom b j))

/-- The gather of one entry per row and place reads the entry of that row at the column its index names. -/
theorem gathered_apply {α : Type} (x : S512x65536.Idx → α) (idx : IVec S512x16x1 32) (r : Fin 512) (k : Fin 16) (n : Fin 65536)
    (h : (idx (ix3 r k (0 : Fin 1))).toInt = n.val) :
    Host.gather gather_S512x65536_S512x16x1_S512x16_n_1_0_0_1_2_11 x idx (ix2 r k) = x (ix2 r n) := by
  set d := gather_S512x65536_S512x16x1_S512x16_n_1_0_0_1_2_11 with hd
  unfold Host.gather
  refine congrArg x (funext fun a => Fin.ext ?_)
  change d.start (ix2 r k) idx a + d.batchCoord (ix2 r k) a + d.offCoord (ix2 r k) a = _
  have out : ∀ b : Fin 2, b ∉ d.sKept := fun b hb => by
    have := (GatherDims.mem_sKept _ _).mp hb
    fin_cases b
    · exact this.2 (List.mem_singleton.mpr rfl)
    · exact this.1 (List.mem_singleton.mpr rfl)
  rw [GatherDims.offCoord_eq_zero _ _ _ (out a), Nat.add_zero]
  fin_cases a
  · refine (congrArg (· + _) (GatherDims.start_batching _ _ _ _ (List.mem_singleton.mpr rfl))).trans ?_
    refine (Nat.zero_add _).trans ?_
    unfold GatherDims.batchCoord
    exact (dif_pos (List.mem_singleton.mpr rfl)).trans rfl
  · refine (congrArg (_ + ·) (GatherDims.batchCoord_eq_zero _ _ _ (by simp [d, gather_S512x65536_S512x16x1_S512x16_n_1_0_0_1_2_11]))).trans ?_
    refine (Nat.add_zero _).trans ?_
    unfold GatherDims.start
    refine (dif_pos (List.mem_singleton.mpr rfl)).trans ?_
    have si : d.siIdx (ix2 r k) ⟨List.idxOf (1 : Fin 2) d.startIndexMap,
        List.idxOf_lt_length_iff.2 (List.mem_singleton.mpr rfl)⟩ = ix3 r k (0 : Fin 1) := by
      funext b; fin_cases b <;> exact Fin.ext rfl
    refine (congrArg (fun i => min (idx i).toInt.toNat _) si).trans ?_
    rw [h, Int.toNat_natCast]
    have : n.val < 65536 := n.isLt
    change min n.val (65536 - 1) = n.val
    omega

/-- The index of every row and place, wrapped when negative, as a column of its own. -/
def wrapped (idx : IVec S512x16 32) : IVec S512x16x1 32 :=
  shapeCast S512x16x1
    (select (cmpi .slt idx (broadcastInDim S512x16 ![] bcast_S_S512x16 (constantI S_ 32 0#32)))
      (addi idx (broadcastInDim S512x16 ![] bcast_S_S512x16 (constantI S_ 32 65536#32))) idx)
    shapeCasts_S512x16_S512x16x1

/-- Whether an index is a column of the row. -/
def within (w : IVec S512x16x1 32) : IVec S512x16x1 1 :=
  andi (cmpi .sge w (broadcastInDim S512x16x1 ![] bcast_S_S512x16x1 (constantI S_ 32 0#32)))
    (cmpi .sle w (broadcastInDim S512x16x1 ![0, 1, 2] bcast_S1x1x1_S512x16x1_0_1_2
      (broadcastInDim S1x1x1 ![2] bcast_S1_S1x1x1_2 (constantI S1 32 65535#32))))

/-- An index that names a column is not wrapped. -/
theorem wrapped_apply (idx : IVec S512x16 32) (r : Fin 512) (k : Fin 16) (n : Fin 65536)
    (h : idx (ix2 r k) = BitVec.ofNat 32 n.val) : wrapped idx (ix3 r k (0 : Fin 1)) = BitVec.ofNat 32 n.val := by
  have hn : n.val < 65536 := n.isLt
  refine (shapeCast_apply _ _ _ (ix2 r k) (by simp [Shape.rowMajor_val_two, Shape.rowMajor_val_three])).trans ?_
  change Scalar.select (IntOp.cmpi .slt (idx (ix2 r k)) 0#32) (IntOp.addi (idx (ix2 r k)) 65536#32) (idx (ix2 r k)) = _
  rw [h]
  exact Routing.wrap_of_lt _ _ (by rw [BitVec.toNat_ofNat]; omega)

/-- An index that names a column is within the row. -/
theorem within_apply (w : IVec S512x16x1 32) (i : S512x16x1.Idx) (n : Fin 65536) (h : w i = BitVec.ofNat 32 n.val) :
    within w i = 1#1 := by
  have hn : n.val < 65536 := n.isLt
  change IntOp.andi (IntOp.cmpi .sge (w i) 0#32) (IntOp.cmpi .sle (w i) 65535#32) = 1#1
  rw [h]
  refine IntOp.andi_eq_one.2 ⟨?_, ?_⟩
  · exact (StableHlo.Predicate.sge_iff_toNat (by rw [BitVec.toNat_ofNat]; omega) (by decide)).2 (Nat.zero_le _)
  · exact (StableHlo.Predicate.sle_iff_toNat (by rw [BitVec.toNat_ofNat]; omega) (by decide)).2
      (by rw [BitVec.toNat_ofNat, BitVec.toNat_ofNat]; omega)

/-- Taking along the row: where the index names a column, the entry at that column. -/
theorem taken_apply (x : FVec Ideal S512x65536 .f32) (idx : IVec S512x16 32) (r : Fin 512) (k : Fin 16) (n : Fin 65536)
    (h : idx (ix2 r k) = BitVec.ofNat 32 n.val) : fn_take_along_axis (F := Ideal) x idx (ix2 r k) = x (ix2 r n) := by
  have hn : n.val < 65536 := n.isLt
  have hw := wrapped_apply idx r k n h
  have hin : Host.reduce IntOp.andi (within (wrapped idx)) (constantI S_ 1 1#1) reducesTo_S512x16x1_S512x16_d2 h_S_ (ix2 r k)
      = 1#1 := by
    rw [Host.reduce_eq_foldl]
    refine IntOp.foldl_andi_one _ _ _ rfl fun i hi => ?_
    have hd : reducesTo_S512x16x1_S512x16_d2.drop i = ix2 r k := by simpa using (List.mem_filter.1 hi).2
    have hi' : i = ix3 r k (0 : Fin 1) := by
      have h0 := reducesTo_S512x16x1_S512x16_d2.drop_apply_val_of_eq i (0 : Fin 2) (0 : Fin 3)
      have h1 := reducesTo_S512x16x1_S512x16_d2.drop_apply_val_of_eq i (1 : Fin 2) (1 : Fin 3)
      rw [hd] at h0 h1
      funext a
      fin_cases a
      · exact Fin.ext h0.symm
      · exact Fin.ext h1.symm
      · exact Subsingleton.elim (α := Fin 1) _ _
    exact within_apply _ i n (hi' ▸ hw)
  have e : fn_take_along_axis (F := Ideal) x idx (ix2 r k)
      = Scalar.select
          (Host.reduce IntOp.andi (within (wrapped idx)) (constantI S_ 1 1#1) reducesTo_S512x16x1_S512x16_d2 h_S_ (ix2 r k))
          (Host.gather gather_S512x65536_S512x16x1_S512x16_n_1_0_0_1_2_11 x (wrapped idx) (ix2 r k))
          (Ideal.ofBits .f32 0x7FC00000#32) := rfl
  rw [e, hin, gathered_apply x (wrapped idx) r k n (by rw [hw]; exact StableHlo.Predicate.toInt_ofNat_small _ (by omega))]
  rfl

/-- The reference's result: the entries at the first sixteen columns of the sorted row. -/
def topOf (X : FVec Ideal S512x65536 .f32) : FVec Ideal S512x16 .f32 :=
  fn_take_along_axis (F := Ideal) X
    (extractStridedSlice S512x16 ![0, 0] (fn_argsort (F := Ideal) (Host.negf X)) slices_S512x65536_S512x16_0_0)

/-- Row `r` in its sorted order, at a place counted from zero. -/
def ranked (X : (⟨2, ![512, 65536]⟩ : Shape).Idx → EReal) (r : Fin 512) (j : ℕ) : EReal :=
  X (ix2 r (column (fun n => X (ix2 r n)) (Fin.ofNat 65536 j)))

/-- The reference's result, element by element. -/
theorem topOf_apply (X : FVec Ideal S512x65536 .f32) (r : Fin 512) (k : Fin 16) : topOf X (ix2 r k) = ranked X r k.val := by
  have hk : k.val < 16 := k.isLt
  refine taken_apply X _ r k _ ?_
  refine Eq.trans ?_ (argsort_apply X r (Fin.ofNat 65536 k.val))
  refine congrArg (fn_argsort (F := Ideal) (Host.negf X)) (funext fun a => ?_)
  fin_cases a
  · exact Fin.ext (Nat.zero_add _)
  · refine Fin.ext ((Nat.zero_add _).trans ?_)
    change k.val = k.val % 65536
    omega

end Cert.TopK

end

end
-- ==== Proof.Candidates.lean ====
module

public import proofs.«01_k».proof.Proof.Reads
public import proofs.«01_k».proof.Proof.Protocol

/-!
# What one device's candidates are

Row `q` of a device's candidates holds, at row `r` of the array, the value number `q` in the peeling of the lanes' two greatest
values of the device's block of that row.
-/

@[expose] public section

set_option maxRecDepth 16384

noncomputable section

namespace Cert.TopK

open Cert.KernelIdeal Cert.KernelIdeal.Gen
open Idealize.ShloMosaic

/-- A lane's two greatest values are at columns `l` and `128 + l` of the candidates' table. -/
def laneCol : Fin 2 × Fin 128 ≃ Fin 256 := finProdFinEquiv

/-- The block's entry at row `r`, sublane `s` and lane `l`. -/
def entry (x : Vec Ideal S512x4096 .f32) (r : Fin 512) (s : Fin 32) (l : Fin 128) : EReal :=
  x (ix2 r ⟨s.val * 128 + l.val, by omega⟩)

theorem lift_lane (h : S512x32x128.Reduces [1] S512x128) (r : Fin 512) (l : Fin 128) (s : Fin 32) :
    h.lift (ix2 r l) s = ix3 r s l := by
  funext a; fin_cases a <;> exact Fin.ext rfl

theorem lift_row (h : S512x256.Reduces [1] S512) (r : Fin 512) (k : Fin 256) : h.lift (ix1 r) k = ix2 r k := by
  funext a; fin_cases a <;> exact Fin.ext rfl

theorem split_apply (x : Vec Ideal S512x4096 .f32) (h : S512x4096.ShapeCasts S512x4096) (h' : S512x4096.ShapeCasts S512x32x128)
    (r : Fin 512) (s : Fin 32) (l : Fin 128) : shapeCast S512x32x128 (shapeCast S512x4096 x h) h' (ix3 r s l) = entry x r s l := by
  pointwise
  unfold entry
  congr 1

/-- The greatest of each lane. -/
theorem greatest_apply (v : FVec Ideal S512x32x128 .f32) (h : S512x32x128.Reduces [1] S512x128) (r : Fin 512) (l : Fin 128) :
    multiReduction .maximumf [1] S512x128 v 0xFF800000#32 h (.inl rfl) rfl (ix2 r l) = peel (fun s : Fin 32 => v (ix3 r s l)) 0 := by
  refine (max_along v h (.inl rfl) rfl _).trans ?_
  exact iSup_congr fun s => congrArg v (lift_lane h r l s)

/-- The second greatest of each lane: the greatest of what differs from the greatest. -/
theorem second_apply (v : FVec Ideal S512x32x128 .f32) (w : FVec Ideal S512x128 .f32) (h : S512x32x128.Reduces [1] S512x128)
    (hc : S512x128.ShapeCasts S512x1x128) (hb : S512x1x128.Broadcasts S512x32x128) (r : Fin 512) (l : Fin 128)
    (hw : w (ix2 r l) = peel (fun s : Fin 32 => v (ix3 r s l)) 0) :
    multiReduction .maximumf [1] S512x128
        (select (cmpf .oeq v (broadcastTo S512x32x128 (shapeCast S512x1x128 w hc) hb))
          (broadcast S512x32x128 (Scalar.ofBits .f32 0xFF800000#32)) v)
        0xFF800000#32 h (.inl rfl) rfl (ix2 r l) = peel (fun s : Fin 32 => v (ix3 r s l)) 1 := by
  refine (greatest_apply _ h r l).trans (iSup_congr fun s => ?_)
  have e : broadcastTo S512x32x128 (shapeCast S512x1x128 w hc) hb (ix3 r s l) = w (ix2 r l) := by pointwise
  have e' : select (cmpf .oeq v (broadcastTo S512x32x128 (shapeCast S512x1x128 w hc) hb))
        (broadcast S512x32x128 (Scalar.ofBits .f32 0xFF800000#32)) v (ix3 r s l)
      = if Ideal.cmp .oeq (v (ix3 r s l)) (w (ix2 r l)) = 1#1 then Ideal.ofBits .f32 0xFF800000#32 else v (ix3 r s l) := by
    rw [← e]; rfl
  rw [hw] at e'
  exact e'.trans (drop_equal _ _ (le_peel_zero (fun s : Fin 32 => v (ix3 r s l)) s))

/-- The table of candidates: at a lane's first column its greatest value, at its second the greatest strictly below. -/
theorem pay4_apply (x : Vec Ideal S512x4096 .f32) (r : Fin 512) (p : Fin 2 × Fin 128) :
    k0_pay4 (F := Ideal) x (ix2 r (laneCol p)) = peel (fun s => entry x r s p.2) p.1 := by
  obtain ⟨a, l⟩ := p
  have hx := fun s => split_apply x shapeCasts_S512x4096_S512x4096 shapeCasts_S512x4096_S512x32x128 r s l
  have hl : (laneCol (a, l)).val = l.val + 128 * a.val := rfl
  unfold k0_pay4
  fin_cases a
  · refine (concatenate_pair_apply_left (t := S512x256) (s₁ := S512x128) (s₂ := S512x128) 1 _ _ _ _ rfl (ix2 r l) fun b => ?_).trans ?_
    · fin_cases b
      · rfl
      · simpa using hl.symm
    · refine (greatest_apply _ _ r l).trans ?_
      exact congrArg (fun f => peel f 0) (funext hx)
  · refine (concatenate_pair_apply_right (t := S512x256) (s₁ := S512x128) (s₂ := S512x128) 1 _ _ _ _ rfl rfl (ix2 r l) (fun b hb => ?_) ?_).trans ?_
    · fin_cases b
      · rfl
      · exact absurd rfl hb
    · simpa [ix2] using hl.symm
    · refine (second_apply _ _ _ _ _ r l (greatest_apply _ _ r l)).trans ?_
      exact congrArg (fun f => peel f 1) (funext hx)

/-- One step on the table: the greatest entry of each row strictly below the row's value. -/
theorem step_apply (c : FVec Ideal S512x256 .f32) (w : FVec Ideal S512 .f32) (hc : S512.ShapeCasts S512x1) (hb : S512x1.Broadcasts S512x256)
    (h : S512x256.Reduces [1] S512) (r : Fin 512) :
    multiReduction .maximumf [1] S512
        (select (cmpf .olt c (broadcastTo S512x256 (shapeCast S512x1 w hc) hb)) c (broadcast S512x256 (Scalar.ofBits .f32 0xFF800000#32)))
        0xFF800000#32 h (.inl rfl) rfl (ix1 r) = below (fun j : Fin 256 => c (ix2 r j)) (w (ix1 r)) := by
  refine (max_along _ h (.inl rfl) rfl _).trans ?_
  refine iSup_congr fun (j : Fin 256) => ?_
  rw [lift_row]
  have e : broadcastTo S512x256 (shapeCast S512x1 w hc) hb (ix2 r j) = w (ix1 r) := by pointwise
  have e' : select (cmpf .olt c (broadcastTo S512x256 (shapeCast S512x1 w hc) hb)) c (broadcast S512x256 (Scalar.ofBits .f32 0xFF800000#32)) (ix2 r j)
      = if Ideal.cmp .olt (c (ix2 r j)) (w (ix1 r)) = 1#1 then c (ix2 r j) else Ideal.ofBits .f32 0xFF800000#32 := by
    rw [← e]; rfl
  exact e'.trans (keep_below _ _)

/-- A step from the value number `k` of the peeling is the value number `k + 1`. -/
theorem step_peel (c : FVec Ideal S512x256 .f32) (w : FVec Ideal S512 .f32) (hc : S512.ShapeCasts S512x1) (hb : S512x1.Broadcasts S512x256)
    (h : S512x256.Reduces [1] S512) (r : Fin 512) (k : ℕ)
    (hw : w (ix1 r) = peel (fun j : Fin 256 => c (ix2 r j)) k) :
    multiReduction .maximumf [1] S512
        (select (cmpf .olt c (broadcastTo S512x256 (shapeCast S512x1 w hc) hb)) c (broadcast S512x256 (Scalar.ofBits .f32 0xFF800000#32)))
        0xFF800000#32 h (.inl rfl) rfl (ix1 r) = peel (fun j : Fin 256 => c (ix2 r j)) (k + 1) :=
  (step_apply c w hc hb h r).trans (congrArg (below fun j : Fin 256 => c (ix2 r j)) hw)

/-- Eight vectors stacked as the rows of one array: each element is read off the vector of its row. -/
theorem rows_apply {f0 f1 f2 f3 f4 f5 f6 f7 : FVec Ideal S512 .f32} (hc : S512.ShapeCasts S1x512)
    (h : Shape.Concatenates [S1x512, S1x512, S1x512, S1x512, S1x512, S1x512, S1x512, S1x512] S8x512 0) (q : Fin 8) (r : Fin 512)
    (P : ℕ → EReal) (h0 : f0 (ix1 r) = P 0) (h1 : f1 (ix1 r) = P 1) (h2 : f2 (ix1 r) = P 2) (h3 : f3 (ix1 r) = P 3) (h4 : f4 (ix1 r) = P 4) (h5 : f5 (ix1 r) = P 5) (h6 : f6 (ix1 r) = P 6) (h7 : f7 (ix1 r) = P 7) :
    concatenate S8x512 0 [⟨S1x512, shapeCast S1x512 f0 hc⟩, ⟨S1x512, shapeCast S1x512 f1 hc⟩, ⟨S1x512, shapeCast S1x512 f2 hc⟩, ⟨S1x512, shapeCast S1x512 f3 hc⟩, ⟨S1x512, shapeCast S1x512 f4 hc⟩, ⟨S1x512, shapeCast S1x512 f5 hc⟩, ⟨S1x512, shapeCast S1x512 f6 hc⟩, ⟨S1x512, shapeCast S1x512 f7 hc⟩] h (ix2 q r) = P q := by
  refine (concatenate_ofFn_unit_apply (t := S8x512) (s₁ := S1x512) 0 (fun n : Fin 8 => shapeCast S1x512 (![f0, f1, f2, f3, f4, f5, f6, f7] n) hc) h rfl rfl
    (ix2 q r) q rfl (ix2 0 r) fun b hb => ?_).trans ?_
  · fin_cases b
    · exact absurd rfl hb
    · rfl
  · have e : ∀ f : FVec Ideal S512 .f32, shapeCast S1x512 f hc (ix2 0 r) = f (ix1 r) := fun f => by pointwise
    rw [e]
    fin_cases q
    exacts [h0, h1, h2, h3, h4, h5, h6, h7]

/-- The candidates' rows peel the table of candidates. -/
theorem candOf_peel (x : Vec Ideal S512x4096 .f32) (q : Fin 8) (r : Fin 512) :
    candOf x (ix2 q r) = peel (fun j : Fin 256 => k0_pay4 (F := Ideal) x (ix2 r j)) q := by
  have step := fun w k => step_peel (k0_pay4 (F := Ideal) x) w shapeCasts_S512_S512x1 broadcasts_S512x1_S512x256 reduces_S512x256_S512 r k
  have h5 : k0_pay5 (F := Ideal) x (ix1 r) = peel (fun j : Fin 256 => k0_pay4 (F := Ideal) x (ix2 r j)) 0 := by
    unfold k0_pay5
    refine (max_along (k0_pay4 (F := Ideal) x) reduces_S512x256_S512 (.inl rfl) rfl (ix1 r)).trans ?_
    exact iSup_congr fun (j : Fin 256) => congrArg _ (lift_row _ r j)
  have h6 : k0_pay6 (F := Ideal) x (ix1 r) = _ := step _ 0 h5
  have h7 : k0_pay7 (F := Ideal) x (ix1 r) = _ := step _ 1 h6
  have h8 : k0_pay8 (F := Ideal) x (ix1 r) = _ := step _ 2 h7
  have h9 : k0_pay9 (F := Ideal) x (ix1 r) = _ := step _ 3 h8
  have h10 := step _ 4 h9
  have h11 := step _ 5 h10
  have h12 := step _ 6 h11
  refine (congrFun (shapeCast_self (k0_pay11 (k0_pay4 x) (k0_pay5 x) (k0_pay6 x) (k0_pay7 x) (k0_pay8 x) (k0_pay9 x)
    (k0_pay10 x)) shapeCasts_S8x512_S8x512) (ix2 q r)).trans ?_
  unfold k0_pay11
  exact rows_apply shapeCasts_S512_S1x512 _ q r _ h5 h6 h7 h8 h9 h10 h11 h12

/-- What a device hands over of a row: its lanes' two greatest values, peeled. -/
theorem candOf_apply (x : Vec Ideal S512x4096 .f32) (q : Fin 8) (r : Fin 512) :
    candOf x (ix2 q r) = peel (fun p : Fin 2 × Fin 128 => peel (fun s => entry x r s p.2) p.1) q := by
  rw [candOf_peel, ← peel_comp _ laneCol]
  exact congrArg (fun f => peel f q) (funext fun p => pay4_apply x r p)

end Cert.TopK

end

end
-- ==== Proof.Output.lean ====
module

public import proofs.«01_k».proof.Proof.Reads
public import proofs.«01_k».proof.Proof.Body

/-!
# What the output block holds

Column `k` of the output block holds, at row `r`, the value number `k` in the peeling of the gathered candidates of that row.
-/

@[expose] public section

set_option maxRecDepth 16384

noncomputable section

namespace Cert.TopK

open Cert.KernelIdeal Cert.KernelIdeal.Gen
open Idealize.ShloMosaic

/-- The gathered candidates of row `r`, over the slot and the place in it. -/
def pool (v : Vec Ideal S16x8x512 .f32) (r : Fin 512) (p : Fin 16 × Fin 8) : EReal := v (ix3 p.1 p.2 r)

theorem lift_slot (h : S16x8x512.Reduces [0] S8x512) (q : Fin 8) (r : Fin 512) (d : Fin 16) : h.lift (ix2 q r) d = ix3 d q r := by
  funext a; fin_cases a <;> exact Fin.ext rfl

theorem lift_place (h : S8x512.Reduces [0] S512) (r : Fin 512) (q : Fin 8) : h.lift (ix1 r) q = ix2 q r := by
  funext a; fin_cases a <;> exact Fin.ext rfl

/-- The maximum over the slots, then over the places, is the supremum over both. -/
theorem max_pool (v : FVec Ideal S16x8x512 .f32) (h : S16x8x512.Reduces [0] S8x512) (h' : S8x512.Reduces [0] S512) (r : Fin 512) :
    multiReduction .maximumf [0] S512 (multiReduction .maximumf [0] S8x512 v 0xFF800000#32 h (.inl rfl) rfl) 0xFF800000#32 h' (.inl rfl) rfl
      (ix1 r) = ⨆ p, pool v r p := by
  refine (max_along _ h' (.inl rfl) rfl _).trans ?_
  rw [iSup_prod, iSup_comm]
  refine iSup_congr fun (q : Fin 8) => ?_
  rw [lift_place]
  refine (max_along v h (.inl rfl) rfl _).trans (iSup_congr fun (d : Fin 16) => ?_)
  rw [lift_slot]
  rfl

/-- A step from the value number `k` of the peeling of the pool is the value number `k + 1`. -/
theorem pool_step (v : FVec Ideal S16x8x512 .f32) (w : FVec Ideal S512 .f32) (hc : S512.ShapeCasts S1x1x512)
    (hb : S1x1x512.Broadcasts S16x8x512) (h : S16x8x512.Reduces [0] S8x512) (h' : S8x512.Reduces [0] S512) (r : Fin 512) (k : ℕ)
    (hw : w (ix1 r) = peel (pool v r) k) :
    multiReduction .maximumf [0] S512
        (multiReduction .maximumf [0] S8x512
          (select (cmpf .olt v (broadcastTo S16x8x512 (shapeCast S1x1x512 w hc) hb)) v
            (broadcast S16x8x512 (Scalar.ofBits .f32 0xFF800000#32)))
          0xFF800000#32 h (.inl rfl) rfl)
        0xFF800000#32 h' (.inl rfl) rfl (ix1 r) = peel (pool v r) (k + 1) := by
  refine (max_pool _ h h' r).trans (iSup_congr fun p => ?_)
  obtain ⟨d, q⟩ := p
  have e : broadcastTo S16x8x512 (shapeCast S1x1x512 w hc) hb (ix3 d q r) = w (ix1 r) := by pointwise
  have e' : select (cmpf .olt v (broadcastTo S16x8x512 (shapeCast S1x1x512 w hc) hb)) v
        (broadcast S16x8x512 (Scalar.ofBits .f32 0xFF800000#32)) (ix3 d q r)
      = if Ideal.cmp .olt (v (ix3 d q r)) (w (ix1 r)) = 1#1 then v (ix3 d q r) else Ideal.ofBits .f32 0xFF800000#32 := by
    rw [← e]; rfl
  rw [hw] at e'
  exact e'.trans (keep_below _ _)

/-- Sixteen vectors set side by side as the columns of one array: each element is read off the vector of its column. -/
theorem columns_apply {f0 f1 f2 f3 f4 f5 f6 f7 f8 f9 f10 f11 f12 f13 f14 f15 : FVec Ideal S512 .f32} (hc : S512.ShapeCasts S512x1)
    (h : Shape.Concatenates [S512x1, S512x1, S512x1, S512x1, S512x1, S512x1, S512x1, S512x1, S512x1, S512x1, S512x1, S512x1, S512x1, S512x1, S512x1, S512x1] S512x16 1)
    (k : Fin 16) (r : Fin 512) (P : ℕ → EReal) (h0 : f0 (ix1 r) = P 0) (h1 : f1 (ix1 r) = P 1) (h2 : f2 (ix1 r) = P 2) (h3 : f3 (ix1 r) = P 3) (h4 : f4 (ix1 r) = P 4) (h5 : f5 (ix1 r) = P 5) (h6 : f6 (ix1 r) = P 6) (h7 : f7 (ix1 r) = P 7) (h8 : f8 (ix1 r) = P 8) (h9 : f9 (ix1 r) = P 9) (h10 : f10 (ix1 r) = P 10) (h11 : f11 (ix1 r) = P 11) (h12 : f12 (ix1 r) = P 12) (h13 : f13 (ix1 r) = P 13) (h14 : f14 (ix1 r) = P 14) (h15 : f15 (ix1 r) = P 15) :
    concatenate S512x16 1 [⟨S512x1, shapeCast S512x1 f0 hc⟩, ⟨S512x1, shapeCast S512x1 f1 hc⟩, ⟨S512x1, shapeCast S512x1 f2 hc⟩, ⟨S512x1, shapeCast S512x1 f3 hc⟩, ⟨S512x1, shapeCast S512x1 f4 hc⟩, ⟨S512x1, shapeCast S512x1 f5 hc⟩, ⟨S512x1, shapeCast S512x1 f6 hc⟩, ⟨S512x1, shapeCast S512x1 f7 hc⟩, ⟨S512x1, shapeCast S512x1 f8 hc⟩, ⟨S512x1, shapeCast S512x1 f9 hc⟩, ⟨S512x1, shapeCast S512x1 f10 hc⟩, ⟨S512x1, shapeCast S512x1 f11 hc⟩, ⟨S512x1, shapeCast S512x1 f12 hc⟩, ⟨S512x1, shapeCast S512x1 f13 hc⟩, ⟨S512x1, shapeCast S512x1 f14 hc⟩, ⟨S512x1, shapeCast S512x1 f15 hc⟩] h (ix2 r k) = P k := by
  refine (concatenate_ofFn_unit_apply (t := S512x16) (s₁ := S512x1) 1
    (fun n : Fin 16 => shapeCast S512x1 (![f0, f1, f2, f3, f4, f5, f6, f7, f8, f9, f10, f11, f12, f13, f14, f15] n) hc) h rfl rfl (ix2 r k) k rfl (ix2 r 0) fun b hb => ?_).trans ?_
  · fin_cases b
    · rfl
    · exact absurd rfl hb
  · have e : ∀ f : FVec Ideal S512 .f32, shapeCast S512x1 f hc (ix2 r 0) = f (ix1 r) := fun f => by pointwise
    rw [e]
    fin_cases k
    exacts [h0, h1, h2, h3, h4, h5, h6, h7, h8, h9, h10, h11, h12, h13, h14, h15]

/-- The output block peels the pool of the gathered candidates. -/
theorem outOf_apply (v : Vec Ideal S16x8x512 .f32) (r : Fin 512) (k : Fin 16) : outOf v (ix2 r k) = peel (pool v r) k := by
  have step := fun w k => pool_step v w shapeCasts_S512_S1x1x512 broadcasts_S1x1x512_S16x8x512 reduces_S16x8x512_S8x512 reduces_S8x512_S512 r k
  have h0 : k0_pay14 (F := Ideal) v (ix1 r) = peel (pool v r) 0 := max_pool v _ _ r
  have h1 : k0_pay15 (F := Ideal) v (ix1 r) = _ := step _ 0 h0
  have h2 : k0_pay16 (F := Ideal) v (ix1 r) = _ := step _ 1 h1
  have h3 : k0_pay18 v (k0_pay17 (F := Ideal) v) (ix1 r) = _ := step _ 2 h2
  have h4 : k0_pay19 v (k0_pay17 (F := Ideal) v) (ix1 r) = _ := step _ 3 h3
  have h5 : k0_pay20 v (k0_pay17 (F := Ideal) v) (ix1 r) = _ := step _ 4 h4
  have h6 : k0_pay21 v (k0_pay17 (F := Ideal) v) (ix1 r) = _ := step _ 5 h5
  have h7 : k0_pay22 v (k0_pay17 (F := Ideal) v) (ix1 r) = _ := step _ 6 h6
  have h8 : k0_pay23 v (k0_pay17 (F := Ideal) v) (ix1 r) = _ := step _ 7 h7
  have h9 : k0_pay25 v (k0_pay24 v (k0_pay17 (F := Ideal) v)) (ix1 r) = _ := step _ 8 h8
  have h10 : k0_pay26 v (k0_pay24 v (k0_pay17 (F := Ideal) v)) (ix1 r) = _ := step _ 9 h9
  have h11 : k0_pay27 v (k0_pay24 v (k0_pay17 (F := Ideal) v)) (ix1 r) = _ := step _ 10 h10
  have h12 : k0_pay28 v (k0_pay24 v (k0_pay17 (F := Ideal) v)) (ix1 r) = _ := step _ 11 h11
  have h13 : k0_pay29 v (k0_pay24 v (k0_pay17 (F := Ideal) v)) (ix1 r) = _ := step _ 12 h12
  have h14 : k0_pay30 v (k0_pay24 v (k0_pay17 (F := Ideal) v)) (ix1 r) = _ := step _ 13 h13
  have h15 := step _ 14 h14
  unfold outOf k0_pay3
  exact columns_apply shapeCasts_S512_S512x1 _ k r _ h0 h1 h2 h3 h4 h5 h6 h7 h8 h9 h10 h11 h12 h13 h14 h15

end Cert.TopK

end

end
-- ==== Proof.Outcome.lean ====
module

public import proofs.«01_k».proof.Proof.Candidates
public import proofs.«01_k».proof.Proof.Output
public import proofs.«01_k».proof.Proof.Launch

/-!
# What a device's result array holds

From the launch's final state: element `(r, k)` of every device's result is the value number `k` in the peeling of what all the
devices hand over of row `r` of the whole array.
-/

@[expose] public section

set_option maxRecDepth 16384

noncomputable section

namespace Cert.TopK

open Cert.KernelIdeal Cert.KernelIdeal.Gen
open Idealize.ShloMosaic
open Idealize.ShloMosaic.TcCoe

variable (m : (ℓ : Loc nD τ sig) → Buf (Elt Ideal) ℓ) (ρ : Dev nD → PrngReg)

/-- The result's array after the run is the output block. -/
theorem finalA_out (c : Dev nD) : finalA m ρ c (1 : Fin 2) = outAt m ρ c :=
  (dats m ρ 0 c).arrAt_eq_of_after_last (1 : Fin 2) t₀ (by decide +kernel) _ fun j => rfl

/-- Row `r` of the whole array: the entry of device `d` at sublane `s`, lane `l`. -/
def rowOf (X : (⟨2, ![512, 65536]⟩ : Shape).Idx → EReal) (r : Fin 512) (d : Dev nD) (s : Fin 32) (l : Fin 128) : EReal :=
  X (ix2 r ⟨d.val * 4096 + (s.val * 128 + l.val), by have : d.val < 16 := d.isLt; omega⟩)

/-- Device `c`'s slots, as the devices they are filled from. -/
def slots (c : Dev nD) : Fin 16 ≃ Dev nD where
  toFun d := frm c d
  invFun d := ⟨(c.val + (16 - d.val)) % 16, Nat.mod_lt _ (by decide)⟩
  left_inv d := by revert c d; decide +kernel
  right_inv d := by revert c d; decide +kernel

/-- Slot and place in a device's gather buffer, as device and place. -/
def source (c : Dev nD) : Fin 16 × Fin 8 ≃ Dev nD × Fin 8 := (slots c).prodCongr (Equiv.refl _)

/-- The devices' arguments are the blocks of columns of `X`. -/
def Cut (m : (ℓ : Loc nD τ sig) → Buf (Elt Ideal) ℓ) (X : (⟨2, ![512, 65536]⟩ : Shape).Idx → EReal) : Prop :=
  ∀ c : Dev nD, m ((c.tc : Thread nD τ).loc main_arg0) = Layout.block ⟨2, ![512, 4096]⟩ ⟨2, ![512, 65536]⟩ 1 16 c X

variable (X : (⟨2, ![512, 65536]⟩ : Shape).Idx → EReal) (hX : Cut m X)

include hX

/-- A device's block read at row `r` is its part of the row of the whole array. -/
theorem entry_eq (d : Dev nD) (r : Fin 512) (s : Fin 32) (l : Fin 128) : entry (xstg m ρ d) r s l = rowOf X r d s l := by
  have e : xstg m ρ d = Layout.block ⟨2, ![512, 4096]⟩ ⟨2, ![512, 65536]⟩ 1 16 d X := by
    rw [← hX d]
    funext y
    unfold xstg
    rw [View.read_apply]
    have e' : (win0_0.blk (0 : Fin 1)).view.emb y = y := by
      funext a
      apply Fin.ext
      blk_simp
      fin_cases a <;> simp <;> rfl
    exact congrArg (m (d.tc.loc main_arg0)) e'
  rw [e]
  unfold entry rowOf
  rw [Layout.block_apply]
  refine congrArg X ?_
  funext a
  fin_cases a <;> exact Fin.ext rfl

/-- Every device's result, element by element. -/
theorem outAt_apply (c : Dev nD) (r : Fin 512) (k : Fin 16) : outAt m ρ c (ix2 r k) = peel (handed (rowOf X r)) k := by
  refine (outOf_apply (gath m ρ c) r k).trans ?_
  rw [← peel_comp (handed (rowOf X r)) (source c)]
  refine congrArg (fun f => peel f k.val) (funext fun p => ?_)
  obtain ⟨d, q⟩ := p
  have e : Fin.tail (α := fun a => Fin (S16x8x512.size a)) (ix3 d q r) = ix2 q r := by
    funext a; fin_cases a <;> rfl
  refine (congrArg (candOf (xstg m ρ (frm c d))) e).trans ((candOf_apply _ q r).trans ?_)
  refine congrArg (fun f => peel f q.val) (funext fun p => ?_)
  exact congrArg (fun f => peel f p.1.val) (funext fun s => entry_eq m ρ X hX (frm c d) r s p.2)

end Cert.TopK

end

end
-- ==== Proof.Mask.lean ====
module

public import proofs.«01_k».proof.Proof.Reference
public import proofs.«01_k».proof.Proof.Outcome
public import Idealize.ShloMosaic.Lib.IndicatorCount

/-!
# What the mask says

Where the mask is set at element `(r, k)`: entries zero to `k` of the sorted row strictly decrease, no lane of a device holds more
than two entries of the row at or above entry `k`, and no device holds more than eight.
-/

@[expose] public section

set_option maxRecDepth 16384

noncomputable section

namespace Cert.TopK

open Idealize.ShloMosaic
open Cert.On_retained Cert.On_retained.Facts
open Cert.KernelIdeal (nD)

/-- The index of five coordinates. -/
def ix5 (r : Fin 512) (k : Fin 16) (d : Fin 16) (s : Fin 32) (l : Fin 128) : S512x16x16x32x128.Idx :=
  fun a => match a with
    | ⟨0, _⟩ => r
    | ⟨1, _⟩ => k
    | ⟨2, _⟩ => d
    | ⟨3, _⟩ => s
    | ⟨4, _⟩ => l

/-- Two indices of five coordinates with the same coordinates are the same. -/
theorem ix5_ext {i : S512x16x16x32x128.Idx} {r : Fin 512} {k : Fin 16} {d : Fin 16} {s : Fin 32} {l : Fin 128}
    (h0 : (i 0).val = r.val) (h1 : (i 1).val = k.val) (h2 : (i 2).val = d.val) (h3 : (i 3).val = s.val)
    (h4 : (i 4).val = l.val) : ix5 r k d s l = i := by
  funext a
  fin_cases a
  · exact Fin.ext h0.symm
  · exact Fin.ext h1.symm
  · exact Fin.ext h2.symm
  · exact Fin.ext h3.symm
  · exact Fin.ext h4.symm

/-- A bound on the sum of indicators over one fibre of a reduction, the fibre listed by `g`, bounds the number of the
    members of the list that hold. -/
theorem count_le {s t u : Shape} {axes : List (Fin s.rank)} {κ : Type} [Fintype κ] (p : IVec s 1) (init : u.Idx → BitVec 32)
    (h : s.ReducesTo axes t) (hu : 0 < u.numel) (hw : 1 < 32) (h0 : init (Shape.Idx.first hu) = 0#32) (j : t.Idx) (g : κ ↪ s.Idx)
    (hg : ∀ i, h.drop i = j ↔ ∃ a, g a = i) (hκ : Fintype.card κ < 2 ^ 31) (q : ℕ) (hq : q < 2 ^ 31)
    (e : IntOp.cmpi .sle (Host.reduce IntOp.addi (extui 32 p hw) init h hu j) (BitVec.ofNat 32 q) = 1#1) :
    (Finset.univ.filter fun a => p (g a) = 1#1).card ≤ q := by
  classical
  have fib : (Finset.univ.filter fun i => h.drop i = j) = Finset.univ.map g := by
    ext i
    simp [hg i]
  have sum : Host.reduce IntOp.addi (extui 32 p hw) init h hu j
      = BitVec.ofNat 32 (Finset.univ.filter fun a => p (g a) = 1#1).card := by
    rw [Host.reduce_eq_fold, h0, fib, Finset.fold_map]
    exact IndicatorCount.fold_addi_setWidth_eq_card (fun a => p (g a)) Finset.univ
  have le : (Finset.univ.filter fun a => p (g a) = 1#1).card ≤ Fintype.card κ := Finset.card_le_univ _
  rw [sum] at e
  have := (StableHlo.Predicate.sle_iff_toNat (by rw [BitVec.toNat_ofNat]; omega) (by rw [BitVec.toNat_ofNat]; omega)).1 e
  rw [BitVec.toNat_ofNat, BitVec.toNat_ofNat] at this
  omega

variable (X : FVec Ideal S512x65536 .f32)

/-- Whether an entry of the row is at or above entry `k` of the sorted row. -/
def atLeast : IVec S512x16x16x32x128 1 :=
  cmpf (F := Ideal) (φ := .f32) .oge
    (broadcastInDim S512x16x16x32x128 ![0, 1, 2, 3, 4] bcast_S512x1x16x32x128_S512x16x16x32x128_0_1_2_3_4
      (shapeCast S512x1x16x32x128 X shapeCasts_S512x65536_S512x1x16x32x128))
    (broadcastInDim S512x16x16x32x128 ![0, 1, 2, 3, 4] bcast_S512x16x1x1x1_S512x16x16x32x128_0_1_2_3_4
      (broadcastInDim S512x16x1x1x1 ![0, 1] bcast_S512x16_S512x16x1x1x1_0_1 (topOf X)))

theorem atLeast_apply (r : Fin 512) (k : Fin 16) (d : Dev nD) (s : Fin 32) (l : Fin 128) :
    atLeast X (ix5 r k d s l) = 1#1 ↔ ranked X r k.val ≤ rowOf X r d s l := by
  have hd : d.val < 16 := d.isLt
  have a : broadcastInDim S512x16x16x32x128 ![0, 1, 2, 3, 4] bcast_S512x1x16x32x128_S512x16x16x32x128_0_1_2_3_4
      (shapeCast S512x1x16x32x128 X shapeCasts_S512x65536_S512x1x16x32x128) (ix5 r k d s l) = rowOf X r d s l := by
    unfold broadcastInDim rowOf
    refine shapeCast_apply _ _ _ _ ?_
    rw [Shape.rowMajor_val_two, Shape.rowMajor_val_five]
    change r.val * 65536 + (d.val * 4096 + (s.val * 128 + l.val))
      = (((r.val * 1 + 0) * 16 + d.val) * 32 + s.val) * 128 + l.val
    omega
  have b : broadcastInDim S512x16x16x32x128 ![0, 1, 2, 3, 4] bcast_S512x16x1x1x1_S512x16x16x32x128_0_1_2_3_4
      (broadcastInDim S512x16x1x1x1 ![0, 1] bcast_S512x16_S512x16x1x1x1_0_1 (topOf X)) (ix5 r k d s l) = ranked X r k.val := by
    refine Eq.trans ?_ (topOf_apply X r k)
    unfold broadcastInDim
    refine congrArg (topOf X) (funext fun a => ?_)
    fin_cases a <;> exact Fin.ext rfl
  have e : atLeast X (ix5 r k d s l) = Ideal.cmp .oge (rowOf X r d s l) (ranked X r k.val) := congrArg₂ (Ideal.cmp .oge) a b
  rw [e]
  by_cases h : ranked X r k.val ≤ rowOf X r d s l <;> simp [Ideal.cmp, h]

/-- Whether no lane holds more than two entries at or above entry `k`. -/
def lanesOk : IVec S512x16 1 :=
  Host.reduce IntOp.andi
    (cmpi .sle (Host.reduce IntOp.addi (extui 32 (atLeast X) natLt_1_32) (constantI S_ 32 0#32) reducesTo_S512x16x16x32x128_S512x16x16x128_d3 h_S_)
      (broadcastInDim S512x16x16x128 ![] bcast_S_S512x16x16x128 (constantI S_ 32 2#32)))
    (constantI S_ 1 1#1) reducesTo_S512x16x16x128_S512x16_d2_3 h_S_

/-- Whether no device holds more than eight entries at or above entry `k`. -/
def partsOk : IVec S512x16 1 :=
  Host.reduce IntOp.andi
    (cmpi .sle (Host.reduce IntOp.addi (extui 32 (atLeast X) natLt_1_32) (constantI S_ 32 0#32) reducesTo_S512x16x16x32x128_S512x16x16_d3_4 h_S_)
      (broadcastInDim S512x16x16 ![] bcast_S_S512x16x16 (constantI S_ 32 8#32)))
    (constantI S_ 1 1#1) reducesTo_S512x16x16_S512x16_d2 h_S_

/-- Where the place of the result is beyond a place of the row. -/
def beyond : IVec S16x15 1 :=
  cmpi .sgt (broadcastInDim S16x15 ![0, 1] bcast_S16x1_S16x15_0_1 (broadcastInDim S16x1 ![0] bcast_S16_S16x1_0 (iotaInDim S16 32 0)))
    (broadcastInDim S16x15 ![0, 1] bcast_S1x15_S16x15_0_1 (broadcastInDim S1x15 ![1] bcast_S15_S1x15_1 (iotaInDim S15 32 0)))

/-- Where the result decreases from one place to the next. -/
def decreases : IVec S512x1x15 1 :=
  cmpf (F := Ideal) (φ := .f32) .ogt
    (broadcastInDim S512x1x15 ![0, 2] bcast_S512x15_S512x1x15_0_2 (extractStridedSlice S512x15 ![0, 0] (topOf X) slices_S512x16_S512x15_0_0))
    (broadcastInDim S512x1x15 ![0, 2] bcast_S512x15_S512x1x15_0_2 (extractStridedSlice S512x15 ![0, 1] (topOf X) slices_S512x16_S512x15_0_1))

/-- Whether the result decreases at a place or the place is not before `k`. -/
def stepOk : IVec S512x16x15 1 :=
  ori (broadcastInDim S512x16x15 ![0, 1, 2] bcast_S512x1x15_S512x16x15_0_1_2 (decreases X))
    (broadcastInDim S512x16x15 ![0, 1, 2] bcast_S1x16x15_S512x16x15_0_1_2
      (noti (broadcastInDim S1x16x15 ![1, 2] bcast_S16x15_S1x16x15_1_2 beyond)))

/-- Whether the result decreases at every place before `k`. -/
def stepsOk : IVec S512x16 1 :=
  Host.reduce IntOp.andi (stepOk X) (constantI S_ 1 1#1) reducesTo_S512x16x15_S512x16_d2 h_S_

/-- The mask is its three conditions. -/
theorem fn_eq : fn (F := Ideal) X = andi (andi (lanesOk X) (partsOk X)) (stepsOk X) := rfl

/-- Where the first condition holds: at most two of a lane. -/
theorem lanes_of (r : Fin 512) (k : Fin 16) (h : lanesOk X (ix2 r k) = 1#1) (d : Dev nD) (l : Fin 128) :
    (Finset.univ.filter fun s : Fin 32 => ranked X r k.val ≤ rowOf X r d s l).card ≤ 2 := by
  have e := Host.reduce_andi_eq_one _ _ _ _ _ h (ix4 r k d l) (by
    funext a
    fin_cases a
    · exact Fin.ext (Shape.ReducesTo.drop_apply_val_of_eq reducesTo_S512x16x16x128_S512x16_d2_3 (ix4 r k d l) (0 : Fin 2) (0 : Fin 4))
    · exact Fin.ext (Shape.ReducesTo.drop_apply_val_of_eq reducesTo_S512x16x16x128_S512x16_d2_3 (ix4 r k d l) (1 : Fin 2) (1 : Fin 4)))
  have c := count_le (κ := Fin 32) (atLeast X) (constantI S_ 32 0#32) reducesTo_S512x16x16x32x128_S512x16x16x128_d3 h_S_ natLt_1_32 rfl
    (ix4 r k d l) ⟨fun s => ix5 r k d s l, fun a b hab => congrFun hab (3 : Fin 5)⟩ (fun i => by
      have h0 := reducesTo_S512x16x16x32x128_S512x16x16x128_d3.drop_apply_val_of_eq i (0 : Fin 4) (0 : Fin 5)
      have h1 := reducesTo_S512x16x16x32x128_S512x16x16x128_d3.drop_apply_val_of_eq i (1 : Fin 4) (1 : Fin 5)
      have h2 := reducesTo_S512x16x16x32x128_S512x16x16x128_d3.drop_apply_val_of_eq i (2 : Fin 4) (2 : Fin 5)
      have h3 := reducesTo_S512x16x16x32x128_S512x16x16x128_d3.drop_apply_val_of_eq i (3 : Fin 4) (4 : Fin 5)
      constructor
      · intro hi
        rw [hi] at h0 h1 h2 h3
        exact ⟨i 3, ix5_ext h0.symm h1.symm h2.symm rfl h3.symm⟩
      · rintro ⟨s, rfl⟩
        funext a
        fin_cases a
        · exact Fin.ext h0
        · exact Fin.ext h1
        · exact Fin.ext h2
        · exact Fin.ext h3) (by simp) 2 (by decide) e
  refine le_trans (le_of_eq (congrArg Finset.card ?_)) c
  exact Finset.filter_congr fun s _ => (atLeast_apply X r k d s l).symm

/-- Where the second condition holds: at most eight of a device. -/
theorem parts_of (r : Fin 512) (k : Fin 16) (h : partsOk X (ix2 r k) = 1#1) (d : Dev nD) :
    (Finset.univ.filter fun p : Fin 32 × Fin 128 => ranked X r k.val ≤ rowOf X r d p.1 p.2).card ≤ 8 := by
  have e := Host.reduce_andi_eq_one _ _ _ _ _ h (ix3 r k d) (by
    funext a
    fin_cases a
    · exact Fin.ext (Shape.ReducesTo.drop_apply_val_of_eq reducesTo_S512x16x16_S512x16_d2 (ix3 r k d) (0 : Fin 2) (0 : Fin 3))
    · exact Fin.ext (Shape.ReducesTo.drop_apply_val_of_eq reducesTo_S512x16x16_S512x16_d2 (ix3 r k d) (1 : Fin 2) (1 : Fin 3)))
  have c := count_le (κ := Fin 32 × Fin 128) (atLeast X) (constantI S_ 32 0#32) reducesTo_S512x16x16x32x128_S512x16x16_d3_4 h_S_ natLt_1_32 rfl
    (ix3 r k d) ⟨fun p => ix5 r k d p.1 p.2, fun a b hab => Prod.ext (congrFun hab (3 : Fin 5)) (congrFun hab (4 : Fin 5))⟩ (fun i => by
      have h0 := reducesTo_S512x16x16x32x128_S512x16x16_d3_4.drop_apply_val_of_eq i (0 : Fin 3) (0 : Fin 5)
      have h1 := reducesTo_S512x16x16x32x128_S512x16x16_d3_4.drop_apply_val_of_eq i (1 : Fin 3) (1 : Fin 5)
      have h2 := reducesTo_S512x16x16x32x128_S512x16x16_d3_4.drop_apply_val_of_eq i (2 : Fin 3) (2 : Fin 5)
      constructor
      · intro hi
        rw [hi] at h0 h1 h2
        exact ⟨(i 3, i 4), ix5_ext h0.symm h1.symm h2.symm rfl rfl⟩
      · rintro ⟨s, rfl⟩
        funext a
        fin_cases a
        · exact Fin.ext h0
        · exact Fin.ext h1
        · exact Fin.ext h2) (by simp) 8 (by decide) e
  refine le_trans (le_of_eq (congrArg Finset.card ?_)) c
  exact Finset.filter_congr fun p _ => (atLeast_apply X r k d p.1 p.2).symm

/-- Where the place of the result is beyond a place of the row, the indicator is set. -/
theorem beyond_apply (k : Fin 16) (j : Fin 15) (h : j.val < k.val) : beyond (ix2 k j) = 1#1 := by
  revert k j
  have : ∀ (k : Fin 16) (j : Fin 15), j.val < k.val → IntOp.cmpi .sgt (BitVec.ofNat 32 k.val) (BitVec.ofNat 32 j.val) = 1#1 := by
    decide +kernel
  exact this

/-- Where the third condition holds: the sorted row strictly decreases up to entry `k`. -/
theorem steps_of (r : Fin 512) (k : Fin 16) (h : stepsOk X (ix2 r k) = 1#1) (j : ℕ) (hj : j < k.val) :
    ranked X r (j + 1) < ranked X r j := by
  have hk : k.val < 16 := k.isLt
  let q : Fin 15 := ⟨j, by omega⟩
  have e := Host.reduce_andi_eq_one _ _ _ _ _ h (ix3 r k q) (by
    funext a
    fin_cases a
    · exact Fin.ext (Shape.ReducesTo.drop_apply_val_of_eq reducesTo_S512x16x15_S512x16_d2 (ix3 r k q) (0 : Fin 2) (0 : Fin 3))
    · exact Fin.ext (Shape.ReducesTo.drop_apply_val_of_eq reducesTo_S512x16x15_S512x16_d2 (ix3 r k q) (1 : Fin 2) (1 : Fin 3)))
  have b : broadcastInDim S512x16x15 ![0, 1, 2] bcast_S1x16x15_S512x16x15_0_1_2
      (noti (broadcastInDim S1x16x15 ![1, 2] bcast_S16x15_S1x16x15_1_2 beyond)) (ix3 r k q) = 0#1 := by
    have b1 : broadcastInDim S512x16x15 ![0, 1, 2] bcast_S1x16x15_S512x16x15_0_1_2
      (noti (broadcastInDim S1x16x15 ![1, 2] bcast_S16x15_S1x16x15_1_2 beyond)) (ix3 r k q) = ~~~ beyond (ix2 k q) := by
      unfold broadcastInDim
      refine congrArg (fun i => ~~~ beyond i) (funext fun a => ?_)
      fin_cases a <;> exact Fin.ext rfl
    rw [b1, beyond_apply k q hj]
    rfl
  have d : broadcastInDim S512x16x15 ![0, 1, 2] bcast_S512x1x15_S512x16x15_0_1_2 (decreases X) (ix3 r k q)
      = Ideal.cmp .ogt (ranked X r j) (ranked X r (j + 1)) := by
    refine congrArg₂ (Ideal.cmp .ogt) ?_ ?_
    · refine Eq.trans ?_ (topOf_apply X r ⟨j, by omega⟩)
      refine congrArg (topOf X) (funext fun a => ?_)
      fin_cases a
      · exact Fin.ext (Nat.zero_add _)
      · exact Fin.ext (Nat.zero_add _)
    · refine Eq.trans ?_ (topOf_apply X r ⟨j + 1, by omega⟩)
      refine congrArg (topOf X) (funext fun a => ?_)
      fin_cases a
      · exact Fin.ext (Nat.zero_add _)
      · exact Fin.ext (Nat.add_comm _ _)
  have e' : broadcastInDim S512x16x15 ![0, 1, 2] bcast_S512x1x15_S512x16x15_0_1_2 (decreases X) (ix3 r k q)
      ||| broadcastInDim S512x16x15 ![0, 1, 2] bcast_S1x16x15_S512x16x15_0_1_2
      (noti (broadcastInDim S1x16x15 ![1, 2] bcast_S16x15_S1x16x15_1_2 beyond)) (ix3 r k q) = 1#1 := e
  rw [b, d] at e'
  by_contra hn
  simp [Ideal.cmp, hn] at e'

/-- What the mask says where it is set. -/
theorem retained_of (r : Fin 512) (k : Fin 16) (h : fn (F := Ideal) X (ix2 r k) = 1#1) :
    (∀ j < k.val, ranked X r (j + 1) < ranked X r j)
    ∧ (∀ (d : Dev nD) (l : Fin 128), (Finset.univ.filter fun s : Fin 32 => ranked X r k.val ≤ rowOf X r d s l).card ≤ 2)
    ∧ ∀ d : Dev nD, (Finset.univ.filter fun p : Fin 32 × Fin 128 => ranked X r k.val ≤ rowOf X r d p.1 p.2).card ≤ 8 := by
  rw [fn_eq] at h
  obtain ⟨h12, h3⟩ := IntOp.andi_eq_one.1 h
  obtain ⟨h1, h2⟩ := IntOp.andi_eq_one.1 h12
  exact ⟨steps_of X r k h3, lanes_of X r k h1, parts_of X r k h2⟩

end Cert.TopK

end

end
-- ==== Proof.Equation.lean ====
module

public import proofs.«01_k».proof.Proof.Mask

/-!
# The equation

Where the mask is set, the value the kernel peels is the entry of the sorted row.
-/

@[expose] public section

noncomputable section

namespace Cert.TopK

open Idealize.ShloMosaic
open Cert.KernelIdeal (nD)

variable (X : (⟨2, ![512, 65536]⟩ : Shape).Idx → EReal) (r : Fin 512)

/-- The column of an entry of a device's part of a row. -/
def columnOf (d : Dev nD) (s : Fin 32) (l : Fin 128) : Fin 65536 :=
  ⟨d.val * 4096 + (s.val * 128 + l.val), by have : d.val < 16 := d.isLt; omega⟩

/-- Every column of a row is an entry of some device's part. -/
theorem columnOf_surjective (n : Fin 65536) : ∃ d s l, columnOf d s l = n := by
  have h := n.isLt
  refine ⟨(⟨n.val / 4096, by change _ < 16; omega⟩ : Fin 16), ⟨n.val % 4096 / 128, by omega⟩, ⟨n.val % 128, by omega⟩, Fin.ext ?_⟩
  change n.val / 4096 * 4096 + (n.val % 4096 / 128 * 128 + n.val % 128) = n.val
  omega

/-- Later entries of the sorted row are no greater. -/
theorem ranked_le {i j : ℕ} (h : i ≤ j) (hj : j < 65536) : ranked X r j ≤ ranked X r i := by
  refine column_le (fun n => X (ix2 r n)) (Fin.le_def.2 ?_)
  change i % 65536 ≤ j % 65536
  omega

/-- Every entry of the sorted row is an entry of some device's part. -/
theorem ranked_at (j : ℕ) : ∃ d s l, rowOf X r d s l = ranked X r j := by
  obtain ⟨d, s, l, e⟩ := columnOf_surjective (column (fun n => X (ix2 r n)) (Fin.ofNat 65536 j))
  exact ⟨d, s, l, congrArg (fun n => X (ix2 r n)) e⟩

/-- Every entry of a device's part is an entry of the sorted row. -/
theorem at_ranked (d : Dev nD) (s : Fin 32) (l : Fin 128) : ∃ j < 65536, rowOf X r d s l = ranked X r j := by
  obtain ⟨j, e⟩ := column_surjective (fun n => X (ix2 r n)) (columnOf d s l)
  refine ⟨j.val, j.isLt, ?_⟩
  have hj : Fin.ofNat 65536 j.val = j := Fin.ext (Nat.mod_eq_of_lt j.isLt)
  unfold ranked
  rw [hj, e]
  rfl

/-- Where no lane has more than two entries at or above entry `k`, that entry is not the least element. -/
theorem ranked_pos (k : ℕ) (h : ∀ (d : Dev nD) (l : Fin 128), (Finset.univ.filter fun s : Fin 32 => ranked X r k ≤ rowOf X r d s l).card ≤ 2) :
    ⊥ < ranked X r k := by
  rw [bot_lt_iff_ne_bot]
  intro e
  have := h (0 : Fin 16) 0
  simp [e] at this

/-- Where the mask is set, the kernel's value is the reference's. -/
theorem peel_eq_ranked (k : Fin 16) (h : Cert.On_retained.fn (F := Ideal) X (ix2 r k) = 1#1) :
    peel (handed (rowOf X r)) k = ranked X r k := by
  obtain ⟨hdec, hlane, hpart⟩ := retained_of X r k h
  have hk := k.isLt
  refine peel_handed (rowOf X r) (ranked X r) k (ranked_pos X r k hlane) hdec (fun j _ => ranked_at X r j) (fun d s l => ?_)
    (fun j hj d s l hlt => ?_) hlane hpart
  · obtain ⟨i, hi, e⟩ := at_ranked X r d s l
    exact e.trans_le (ranked_le X r (Nat.zero_le i) hi)
  · obtain ⟨i, hi, e⟩ := at_ranked X r d s l
    rw [e] at hlt ⊢
    refine ranked_le X r ?_ hi
    by_contra hn
    exact absurd (ranked_le X r (show i ≤ j by omega) (by omega)) (not_le.2 hlt)

end Cert.TopK

end

end
-- ==== Proof.Value.lean ====
module

public import proofs.«01_k».proof.Defs
public import proofs.«01_k».proof.Proof.Frames
public import proofs.«01_k».proof.Proof.Equation

/-!
# The value claim

Both programs run, and at the elements the mask selects every device's result is the reference's.
-/

@[expose] public section

set_option maxRecDepth 16384

noncomputable section

namespace Cert.TopK

open Idealize.ShloMosaic Idealize.SL.Sem

variable (m' : (ℓ : Loc Cert.ReferenceIdeal.nD Cert.ReferenceIdeal.τ Cert.ReferenceIdeal.sig) → Buf (Elt Ideal) ℓ)

/-- The reference's argument. -/
def whole : (⟨2, ![512, 65536]⟩ : Shape).Idx → EReal :=
  m' (((0 : Dev Cert.ReferenceIdeal.nD).tc : Thread Cert.ReferenceIdeal.nD Cert.ReferenceIdeal.τ).loc Cert.ReferenceIdeal.main_arg0)

/-- The reference runs, its result ends at the sorted rows' first entries and its argument unchanged. -/
theorem run_reference (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ fun r =>
      r.2.mem (((0 : Dev Cert.ReferenceIdeal.nD).tc : Thread Cert.ReferenceIdeal.nD Cert.ReferenceIdeal.τ).loc Cert.ReferenceIdeal.main_v3) = topOf (whole m')
      ∧ r.2.mem (((0 : Dev Cert.ReferenceIdeal.nD).tc : Thread Cert.ReferenceIdeal.nD Cert.ReferenceIdeal.τ).loc Cert.ReferenceIdeal.main_arg0) = whole m' :=
  (θ_run Cert.ReferenceIdeal.defs _ _).mono (fun _ h => ⟨(h 0).1.trans rfl, (h 0).2⟩) (Cert.ReferenceIdeal.Value.run (F := Ideal) m' ρ)

/-- A device's result after the run, where the mask is set. -/
theorem result_eq (m : (ℓ : Loc Cert.KernelIdeal.nD Cert.KernelIdeal.τ Cert.KernelIdeal.sig) → Buf (Elt Ideal) ℓ) (ρ : Dev Cert.KernelIdeal.nD → PrngReg)
    (X : (⟨2, ![512, 65536]⟩ : Shape).Idx → EReal) (hX : Cut m X)
    (c : Dev Cert.KernelIdeal.nD) (i : (⟨2, ![512, 16]⟩ : Shape).Idx) (h : Cert.On_retained.fn (F := Ideal) X i = 1#1) :
    outAt m ρ c i = topOf X i := by
  obtain ⟨r, k, rfl⟩ : ∃ (r : Fin 512) (k : Fin 16), i = ix2 r k := ⟨i 0, i 1, by funext a; fin_cases a <;> rfl⟩
  exact (outAt_apply m ρ X hX c r k).trans ((peel_eq_ranked X r k h).trans (topOf_apply X r k).symm)

/-- The value claim. -/
theorem value : Cert.algebraic_KernelIdeal_ReferenceIdeal_on_retained := fun m g m' g' _ hX =>
  ⟨topOf (whole m'),
    (θ_run Cert.KernelIdeal.defs _ _).mono (fun _ h c =>
      ⟨fun i hi => (congrFun ((h.1 c 1).trans (finalA_out m g c)) i).trans (result_eq m g (whole m') hX c i hi),
        (h.1 c 0).trans (finalA_x m g c)⟩) (run_main (F := Ideal) m g),
    (θ_run Cert.ReferenceIdeal.defs _ _).mono (fun _ h => ⟨fun i _ => congrFun h.1 i, h.2⟩) (run_reference m' g')⟩

end Cert.TopK

end

end
-- ==== Proof.lean ====
/-
# The claims

The frames of the kernel at hardware floats and at exact extended reals, the frame of the reference, and the value claim.
-/
module

public import proofs.«01_k».proof.Defs
public import proofs.«01_k».proof.Proof.Frames
public import proofs.«01_k».proof.Proof.Value

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.TopK.maskFacts,
    Cert.TopK.frame_kernel, Cert.TopK.frame_kernelIdeal, Cert.TopK.frame_reference, trivial, Cert.TopK.value⟩

end Cert.Proof

end
